-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S100000x1 : Shape := ⟨2, ![100000, 1]⟩
abbrev S100000 : Shape := ⟨1, ![100000]⟩
abbrev S1x1 : Shape := ⟨2, ![1, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x1 .f32) (main_arg1 : IVec S100000 32) (main_arg2 : FVec F S1x1 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 1024#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x1 : Shape := ⟨2, ![100000, 1]⟩
abbrev S100000 : Shape := ⟨1, ![100000]⟩
abbrev S1x1 : Shape := ⟨2, ![1, 1]⟩
abbrev S1 : Shape := ⟨1, ![1]⟩
abbrev S1024 : Shape := ⟨1, ![1024]⟩
abbrev S6256 : Shape := ⟨1, ![6256]⟩
abbrev S2048 : Shape := ⟨1, ![2048]⟩
abbrev S128 : Shape := ⟨1, ![128]⟩
abbrev S16 : Shape := ⟨1, ![16]⟩
abbrev S_ : Shape := ⟨0, ![]⟩
abbrev S16384 : Shape := ⟨1, ![16384]⟩
abbrev S6160 : Shape := ⟨1, ![6160]⟩
abbrev S1024x1 : Shape := ⟨2, ![1024, 1]⟩

abbrev nBuf : Table → Nat
  | .hbm => 8
  | .shared => 1
  | .local .scVector .vmem => 6
  | _ => 0

abbrev bufTy : (tb : Table) → Fin (nBuf tb) → BufTy
  | .hbm, ⟨0, _⟩ => ⟨S100000x1, .f32⟩
  | .hbm, ⟨1, _⟩ => ⟨S100000, .i32⟩
  | .hbm, ⟨2, _⟩ => ⟨S1x1, .f32⟩
  | .hbm, ⟨3, _⟩ => ⟨S1, .f32⟩
  | .hbm, ⟨4, _⟩ => ⟨S100000, .f32⟩
  | .hbm, ⟨5, _⟩ => ⟨S1, .f32⟩
  | .hbm, ⟨6, _⟩ => ⟨S1024, .f32⟩
  | .hbm, ⟨7, _⟩ => ⟨S1024x1, .f32⟩
  | .shared, ⟨0, _⟩ => ⟨S16384, .f32⟩
  | .local .scVector .vmem, ⟨0, _⟩ => ⟨S6256, .i32⟩
  | .local .scVector .vmem, ⟨1, _⟩ => ⟨S6256, .f32⟩
  | .local .scVector .vmem, ⟨2, _⟩ => ⟨S1024, .f32⟩
  | .local .scVector .vmem, ⟨3, _⟩ => ⟨S2048, .f32⟩
  | .local .scVector .vmem, ⟨4, _⟩ => ⟨S128, .f32⟩
  | .local .scVector .vmem, ⟨5, _⟩ => ⟨S16, .f32⟩
  | _, _ => ⟨S100000x1, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 5 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev main_arg3_scv : Ref sig .scVector := ⟨.hbm, 3, rfl⟩
abbrev main_v2_scv : Ref sig .scVector := ⟨.hbm, 6, rfl⟩
abbrev cc0_scratch12 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c15_i32 : BitVec 32 := 15#32
  let v128 : BitVec 1 := Scalar.cmpi .slt arg1 c15_i32
  let v129 : BitVec 32 := Scalar.extui v128
  let c0_i32 : BitVec 32 := 0#32
  let v130 : BitVec 1 := Scalar.cmpi .ne v129 c0_i32
  v130

def k0_off1 (i : grid0.Coords) : Fin 1 → Nat :=
  let arg1 : BitVec 32 := BitVec.ofNat 32 (i 1).val
  let c6256_i32 : BitVec 32 := 6256#32
  let v138 : BitVec 32 := Scalar.muli arg1 c6256_i32
  ![v138.toNat]
@[reducible] def k0_t1_loop : Scf.Loop 32 :=
  let c0_i32_83 : BitVec 32 := 0#32
  let c391_i32_84 : BitVec 32 := 391#32
  let v166 : BitVec 32 := Scalar.addi c0_i32_83 c391_i32_84
  let c1_i32 : BitVec 32 := 1#32
  ⟨c0_i32_83, v166, c1_i32⟩

def k0_chk1 (i : grid0.Coords) (arg21 : IVec S16 32) : Prop :=
  (∀ (k0_h1 : k0_cond1 i = 1#1), ∀ a x, ((![arg21] : Fin 1 → IVec S16 32) a x).toNat < S6256.size a) ∧
  (∀ (k0_h1 : k0_cond1 i = 1#1), ∀ a x, ((![arg21] : Fin 1 → IVec S16 32) a x).toNat < S6256.size a)
theorem k0_idx1_inb : ∀ (i : grid0.Coords) (arg21 : IVec S16 32) (k0_hw1 : k0_chk1 i arg21), ∀ (k0_h1 : k0_cond1 i = 1#1), ∀ a x, ((![arg21] : Fin 1 → IVec S16 32) a x).toNat < S6256.size a := fun i arg21 k0_hw1 k0_h1 => k0_hw1.1 k0_h1
theorem k0_idx2_inb : ∀ (i : grid0.Coords) (arg21 : IVec S16 32) (k0_hw1 : k0_chk1 i arg21), ∀ (k0_h1 : k0_cond1 i = 1#1), ∀ a x, ((![arg21] : Fin 1 → IVec S16 32) a x).toNat < S6256.size a := fun i arg21 k0_hw1 k0_h1 => k0_hw1.2 k0_h1

def k0_chk2 (i : grid0.Coords) (v170 : IVec S16 32) : Prop :=
  (∀ (k0_h1 : k0_cond1 i = 1#1), ∀ a x, ((![v170] : Fin 1 → IVec S16 32) a x).toNat < S1024.size a)
theorem k0_idx3_inb : ∀ (i : grid0.Coords) (v170 : IVec S16 32) (k0_hw2 : k0_chk2 i v170), ∀ (k0_h1 : k0_cond1 i = 1#1), ∀ a x, ((![v170] : Fin 1 → IVec S16 32) a x).toNat < S1024.size a := fun i v170 k0_hw2 k0_h1 => k0_hw2 k0_h1
def k0_cond2 (i : grid0.Coords) : BitVec 1 :=
  let arg1 : BitVec 32 := BitVec.ofNat 32 (i 1).val
  let c15_i32_63 : BitVec 32 := 15#32
  let v131 : BitVec 1 := Scalar.cmpi .eq arg1 c15_i32_63
  let v132 : BitVec 32 := Scalar.extui v131
  let c0_i32_64 : BitVec 32 := 0#32
  let v133 : BitVec 1 := Scalar.cmpi .ne v132 c0_i32_64
  v133

@[reducible] def k0_t2_loop : Scf.Loop 32 :=
  let c0_i32_90 : BitVec 32 := 0#32
  let c385_i32_91 : BitVec 32 := 385#32
  let v165 : BitVec 32 := Scalar.addi c0_i32_90 c385_i32_91
  let c1_i32 : BitVec 32 := 1#32
  ⟨c0_i32_90, v165, c1_i32⟩

def k0_chk3 (i : grid0.Coords) (arg21 : IVec S16 32) : Prop :=
  (∀ (k0_h2 : k0_cond2 i = 1#1), ∀ a x, ((![arg21] : Fin 1 → IVec S16 32) a x).toNat < S6256.size a) ∧
  (∀ (k0_h2 : k0_cond2 i = 1#1), ∀ a x, ((![arg21] : Fin 1 → IVec S16 32) a x).toNat < S6256.size a)
theorem k0_idx4_inb : ∀ (i : grid0.Coords) (arg21 : IVec S16 32) (k0_hw3 : k0_chk3 i arg21), ∀ (k0_h2 : k0_cond2 i = 1#1), ∀ a x, ((![arg21] : Fin 1 → IVec S16 32) a x).toNat < S6256.size a := fun i arg21 k0_hw3 k0_h2 => k0_hw3.1 k0_h2
theorem k0_idx5_inb : ∀ (i : grid0.Coords) (arg21 : IVec S16 32) (k0_hw3 : k0_chk3 i arg21), ∀ (k0_h2 : k0_cond2 i = 1#1), ∀ a x, ((![arg21] : Fin 1 → IVec S16 32) a x).toNat < S6256.size a := fun i arg21 k0_hw3 k0_h2 => k0_hw3.2 k0_h2

def k0_chk4 (i : grid0.Coords) (v169 : IVec S16 32) : Prop :=
  (∀ (k0_h2 : k0_cond2 i = 1#1), ∀ a x, ((![v169] : Fin 1 → IVec S16 32) a x).toNat < S1024.size a)
theorem k0_idx6_inb : ∀ (i : grid0.Coords) (v169 : IVec S16 32) (k0_hw4 : k0_chk4 i v169), ∀ (k0_h2 : k0_cond2 i = 1#1), ∀ a x, ((![v169] : Fin 1 → IVec S16 32) a x).toNat < S1024.size a := fun i v169 k0_hw4 k0_h2 => k0_hw4 k0_h2
def k0_off2 (i : grid0.Coords) : Fin 1 → Nat :=
  let arg1 : BitVec 32 := BitVec.ofNat 32 (i 1).val
  let c1024_i32 : BitVec 32 := 1024#32
  let v134 : BitVec 32 := Scalar.muli arg1 c1024_i32
  ![v134.toNat]
def k0_cond3 (i : grid0.Coords) : BitVec 1 :=
  let arg1 : BitVec 32 := BitVec.ofNat 32 (i 1).val
  let c8_i32 : BitVec 32 := 8#32
  let v135 : BitVec 1 := Scalar.cmpi .slt arg1 c8_i32
  let v136 : BitVec 32 := Scalar.extui v135
  let c0_i32_66 : BitVec 32 := 0#32
  let v137 : BitVec 1 := Scalar.cmpi .ne v136 c0_i32_66
  v137

def k0_off3 (i : grid0.Coords) (c0_i32_67 : BitVec 32) : Fin 1 → Nat :=
  let arg1 : BitVec 32 := BitVec.ofNat 32 (i 1).val
  let c128_i32 : BitVec 32 := 128#32
  let v138 : BitVec 32 := Scalar.muli arg1 c128_i32
  let v139 : BitVec 32 := Scalar.addi c0_i32_67 v138
  ![v139.toNat]
@[reducible] def k0_t3_loop : Scf.Loop 32 :=
  let c0_i32_122 : BitVec 32 := 0#32
  let c16_i32 : BitVec 32 := 16#32
  let v289 : BitVec 32 := Scalar.addi c0_i32_122 c16_i32
  let c1_i32 : BitVec 32 := 1#32
  ⟨c0_i32_122, v289, c1_i32⟩
def k0_off4 (k0_t3 : Fin k0_t3_loop.trips) : Fin 1 → Nat :=
  let c0_i32_122 : BitVec 32 := 0#32
  let c1_i32 : BitVec 32 := 1#32
  let arg20 : BitVec 32 := Scf.iv c0_i32_122 c1_i32 k0_t3
  let c128_i32_167 : BitVec 32 := 128#32
  let v352 : BitVec 32 := Scalar.muli arg20 c128_i32_167
  let c0_i32_168 : BitVec 32 := 0#32
  let v353 : BitVec 32 := Scalar.addi v352 c0_i32_168
  let v354 : Index := Scalar.indexCast v353
  ![v354.toNat]
@[reducible] def k0_t4_loop : Scf.Loop 32 :=
  let c0_i32_126 : BitVec 32 := 0#32
  let c16_i32_127 : BitVec 32 := 16#32
  let v297 : BitVec 32 := Scalar.addi c0_i32_126 c16_i32_127
  let c1_i32_128 : BitVec 32 := 1#32
  ⟨c0_i32_126, v297, c1_i32_128⟩
def k0_off5 (k0_t4 : Fin k0_t4_loop.trips) : Fin 1 → Nat :=
  let c0_i32_126 : BitVec 32 := 0#32
  let c1_i32_128 : BitVec 32 := 1#32
  let arg20 : BitVec 32 := Scf.iv c0_i32_126 c1_i32_128 k0_t4
  let c128_i32_167 : BitVec 32 := 128#32
  let v352 : BitVec 32 := Scalar.muli arg20 c128_i32_167
  let c16_i32_168 : BitVec 32 := 16#32
  let v353 : BitVec 32 := Scalar.addi v352 c16_i32_168
  let v354 : Index := Scalar.indexCast v353
  ![v354.toNat]
@[reducible] def k0_t5_loop : Scf.Loop 32 :=
  let c0_i32_132 : BitVec 32 := 0#32
  let c16_i32_133 : BitVec 32 := 16#32
  let v305 : BitVec 32 := Scalar.addi c0_i32_132 c16_i32_133
  let c1_i32_134 : BitVec 32 := 1#32
  ⟨c0_i32_132, v305, c1_i32_134⟩
def k0_off6 (k0_t5 : Fin k0_t5_loop.trips) : Fin 1 → Nat :=
  let c0_i32_132 : BitVec 32 := 0#32
  let c1_i32_134 : BitVec 32 := 1#32
  let arg20 : BitVec 32 := Scf.iv c0_i32_132 c1_i32_134 k0_t5
  let c128_i32_167 : BitVec 32 := 128#32
  let v352 : BitVec 32 := Scalar.muli arg20 c128_i32_167
  let c32_i32 : BitVec 32 := 32#32
  let v353 : BitVec 32 := Scalar.addi v352 c32_i32
  let v354 : Index := Scalar.indexCast v353
  ![v354.toNat]
@[reducible] def k0_t6_loop : Scf.Loop 32 :=
  let c0_i32_138 : BitVec 32 := 0#32
  let c16_i32_139 : BitVec 32 := 16#32
  let v313 : BitVec 32 := Scalar.addi c0_i32_138 c16_i32_139
  let c1_i32_140 : BitVec 32 := 1#32
  ⟨c0_i32_138, v313, c1_i32_140⟩
def k0_off7 (k0_t6 : Fin k0_t6_loop.trips) : Fin 1 → Nat :=
  let c0_i32_138 : BitVec 32 := 0#32
  let c1_i32_140 : BitVec 32 := 1#32
  let arg20 : BitVec 32 := Scf.iv c0_i32_138 c1_i32_140 k0_t6
  let c128_i32_167 : BitVec 32 := 128#32
  let v352 : BitVec 32 := Scalar.muli arg20 c128_i32_167
  let c48_i32 : BitVec 32 := 48#32
  let v353 : BitVec 32 := Scalar.addi v352 c48_i32
  let v354 : Index := Scalar.indexCast v353
  ![v354.toNat]
@[reducible] def k0_t7_loop : Scf.Loop 32 :=
  let c0_i32_144 : BitVec 32 := 0#32
  let c16_i32_145 : BitVec 32 := 16#32
  let v321 : BitVec 32 := Scalar.addi c0_i32_144 c16_i32_145
  let c1_i32_146 : BitVec 32 := 1#32
  ⟨c0_i32_144, v321, c1_i32_146⟩
def k0_off8 (k0_t7 : Fin k0_t7_loop.trips) : Fin 1 → Nat :=
  let c0_i32_144 : BitVec 32 := 0#32
  let c1_i32_146 : BitVec 32 := 1#32
  let arg20 : BitVec 32 := Scf.iv c0_i32_144 c1_i32_146 k0_t7
  let c128_i32_167 : BitVec 32 := 128#32
  let v352 : BitVec 32 := Scalar.muli arg20 c128_i32_167
  let c64_i32 : BitVec 32 := 64#32
  let v353 : BitVec 32 := Scalar.addi v352 c64_i32
  let v354 : Index := Scalar.indexCast v353
  ![v354.toNat]
@[reducible] def k0_t8_loop : Scf.Loop 32 :=
  let c0_i32_150 : BitVec 32 := 0#32
  let c16_i32_151 : BitVec 32 := 16#32
  let v329 : BitVec 32 := Scalar.addi c0_i32_150 c16_i32_151
  let c1_i32_152 : BitVec 32 := 1#32
  ⟨c0_i32_150, v329, c1_i32_152⟩
def k0_off9 (k0_t8 : Fin k0_t8_loop.trips) : Fin 1 → Nat :=
  let c0_i32_150 : BitVec 32 := 0#32
  let c1_i32_152 : BitVec 32 := 1#32
  let arg20 : BitVec 32 := Scf.iv c0_i32_150 c1_i32_152 k0_t8
  let c128_i32_167 : BitVec 32 := 128#32
  let v352 : BitVec 32 := Scalar.muli arg20 c128_i32_167
  let c80_i32 : BitVec 32 := 80#32
  let v353 : BitVec 32 := Scalar.addi v352 c80_i32
  let v354 : Index := Scalar.indexCast v353
  ![v354.toNat]
@[reducible] def k0_t9_loop : Scf.Loop 32 :=
  let c0_i32_156 : BitVec 32 := 0#32
  let c16_i32_157 : BitVec 32 := 16#32
  let v337 : BitVec 32 := Scalar.addi c0_i32_156 c16_i32_157
  let c1_i32_158 : BitVec 32 := 1#32
  ⟨c0_i32_156, v337, c1_i32_158⟩
def k0_off10 (k0_t9 : Fin k0_t9_loop.trips) : Fin 1 → Nat :=
  let c0_i32_156 : BitVec 32 := 0#32
  let c1_i32_158 : BitVec 32 := 1#32
  let arg20 : BitVec 32 := Scf.iv c0_i32_156 c1_i32_158 k0_t9
  let c128_i32_167 : BitVec 32 := 128#32
  let v352 : BitVec 32 := Scalar.muli arg20 c128_i32_167
  let c96_i32 : BitVec 32 := 96#32
  let v353 : BitVec 32 := Scalar.addi v352 c96_i32
  let v354 : Index := Scalar.indexCast v353
  ![v354.toNat]
@[reducible] def k0_t10_loop : Scf.Loop 32 :=
  let c0_i32_162 : BitVec 32 := 0#32
  let c16_i32_163 : BitVec 32 := 16#32
  let v345 : BitVec 32 := Scalar.addi c0_i32_162 c16_i32_163
  let c1_i32_164 : BitVec 32 := 1#32
  ⟨c0_i32_162, v345, c1_i32_164⟩
def k0_off11 (k0_t10 : Fin k0_t10_loop.trips) : Fin 1 → Nat :=
  let c0_i32_162 : BitVec 32 := 0#32
  let c1_i32_164 : BitVec 32 := 1#32
  let arg20 : BitVec 32 := Scf.iv c0_i32_162 c1_i32_164 k0_t10
  let c128_i32_167 : BitVec 32 := 128#32
  let v352 : BitVec 32 := Scalar.muli arg20 c128_i32_167
  let c112_i32 : BitVec 32 := 112#32
  let v353 : BitVec 32 := Scalar.addi v352 c112_i32
  let v354 : Index := Scalar.indexCast v353
  ![v354.toNat]
def k0_off12 (i : grid0.Coords) : Fin 1 → Nat :=
  let arg1 : BitVec 32 := BitVec.ofNat 32 (i 1).val
  let c128_i32 : BitVec 32 := 128#32
  let v138 : BitVec 32 := Scalar.muli arg1 c128_i32
  ![v138.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x1 : Shape := ⟨2, ![100000, 1]⟩
abbrev S100000 : Shape := ⟨1, ![100000]⟩
abbrev S1x1 : Shape := ⟨2, ![1, 1]⟩
abbrev S1 : Shape := ⟨1, ![1]⟩
abbrev S_ : Shape := ⟨0, ![]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S100000, .i32⟩
  | .hbm, ⟨2, _⟩ => ⟨S1x1, .f32⟩
  | .hbm, ⟨3, _⟩ => ⟨S1, .f32⟩
  | .hbm, ⟨4, _⟩ => ⟨S_, .f32⟩
  | .hbm, ⟨5, _⟩ => ⟨S1024x1, .f32⟩
  | .hbm, ⟨6, _⟩ => ⟨S100000x1, .i32⟩
  | .hbm, ⟨7, _⟩ => ⟨S1024x1, .f32⟩
  | .hbm, ⟨8, _⟩ => ⟨S1x1, .f32⟩
  | .hbm, ⟨9, _⟩ => ⟨S1024x1, .f32⟩
  | .hbm, ⟨10, _⟩ => ⟨S1x1, .f32⟩
  | .hbm, ⟨11, _⟩ => ⟨S1024x1, .f32⟩
  | .hbm, ⟨12, _⟩ => ⟨S1024x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Vals.lean ====
/-
  The numbers the tiles compute, as functions of the four arrays they read: each tile's table of 1024
  sums over its own stretch of nodes, in the order in which the tile adds them, the shared table made of
  the sixteen, and the result a reducing tile writes.
-/
module

public import proofs.«01_k».proof.Defs
public import proofs.«01_k».proof.Proof.Gen.KernelIdeal
public import proofs.«01_k».proof.Proof.Gen.KernelIdeal.Skeleton

@[expose] public section

noncomputable section

namespace Cert.Proof.Vals

open Cert.KernelIdeal Cert.KernelIdeal.Gen
open Idealize.ShloMosaic

variable {F : FTy → Type}

/-- The place of a rank-one array of `n + 1` elements that the number `k` names, taken round the end. -/
def spot (n k : ℕ) : (⟨1, ![n + 1]⟩ : Shape).Idx := fun a => ⟨k % (n + 1), by
  obtain rfl := Fin.eq_zero a; exact Nat.mod_lt _ (Nat.succ_pos n)⟩

/-- The place numbered `k` has the number `k`, inside the array. -/
theorem spot_val {n k : ℕ} (h : k < n + 1) : ((spot n k) 0).val = k := Nat.mod_eq_of_lt h

/-- An index of a rank-one array is known by its number. -/
theorem spot_self {n : ℕ} (j : (⟨1, ![n + 1]⟩ : Shape).Idx) : spot n (j 0).val = j := by
  funext a
  obtain rfl := Fin.eq_zero a
  exact Fin.ext (Nat.mod_eq_of_lt (j 0).isLt)

/-- Two indices of a rank-one array with the same number are the same. -/
theorem idx_ext {n : ℕ} {i j : (⟨1, ![n]⟩ : Shape).Idx} (h : (i 0).val = (j 0).val) : i = j := by
  funext a
  obtain rfl := Fin.eq_zero a
  exact Fin.ext h

/-- How many rounds of sixteen nodes tile `i` takes. -/
def rounds (i : ℕ) : ℕ := if i < 15 then 391 else 385

/-- The node lane `l` of tile `i` takes in round `k`. -/
def node (i k l : ℕ) : ℕ := 6256 * i + (l * rounds i + k)

/-- The node of a tile, round and lane is one of the 100000. -/
theorem node_lt {i k l : ℕ} (hi : i < 16) (hk : k < rounds i) (hl : l < 16) : node i k l < 99999 + 1 := by
  unfold node; unfold rounds at *; split at hk <;> rename_i h
  · rw [if_pos h]; omega
  · rw [if_neg h]; omega

variable [FloatOps F]

/-- The zero every sum starts from. -/
abbrev zeroF : Elt F .f32 := Scalar.ofBits (F := F) .f32 0x00000000#32

section
variable (xs : Vec F S100000 .f32) (ids : Vec F S100000 (EltTy.i32)) (w b : Vec F S1 .f32)

/-- One round's addition of lane `l` into the table `g`. -/
def addLane (i k : ℕ) (g : Vec F S1024 .f32) (l : Fin 16) : Vec F S1024 .f32 := fun j =>
  if (j 0).val = (ids (spot 99999 (node i k l))).toNat then Elt.idxAdd .f32 (g j) (xs (spot 99999 (node i k l))) else g j

/-- Tile `i`'s table after `k` rounds. -/
def table (i : ℕ) : ℕ → Vec F S1024 .f32
  | 0 => fun _ => zeroF
  | k + 1 => (List.finRange 16).foldl (addLane xs ids i k) (table i k)

/-- The sixteen tables one after another, as the tiles leave them in the shared memory. -/
def tables : Vec F S16384 .f32 := fun j => table xs ids ((j 0).val / 1024) (rounds ((j 0).val / 1024)) (spot 1023 ((j 0).val % 1024))

/-- The sum of the first `r` tiles' entries for group `g`, in that order. -/
def upTo (g : S1024.Idx) : ℕ → Elt F .f32
  | 0 => zeroF
  | r + 1 => FloatOps.addf (upTo g r) (table xs ids r (rounds r) g)

/-- What the kernel writes for group `g`. -/
def result : Vec F S1024 .f32 := fun g => FloatOps.addf (FloatOps.mulf (upTo xs ids g 16) (w (spot 0 0))) (b (spot 0 0))

end

end Cert.Proof.Vals

end
-- ==== Proof.Setup.lean ====
/-
  The launch of the sixteen tiles: the resource algebra, the subcore barrier's cells and what a tile hands
  to each other tile at the barrier, and what the handshakes carry to a tile and back.

  Tile `i` is handed its stretch of the nodes and of their group numbers, a read share of the weight and of
  the bias, its piece of the result (tiles 8 to 15 hold none) and its 1024 words of the shared memory. At the
  barrier it gives tile `j` the 128 words of its table that belong to tile `j`'s groups, filled in.
-/
module

public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Setup

open Cert.KernelIdeal Cert.KernelIdeal.Gen
open Cert.Proof.Vals

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on sixteen tiles of its SparseCore. -/
theorem nSub_zero : (K (F := F)).nSub 0 = 16 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The two semaphores of a sequencer differ, none of the handshakes' four is scoped, no shared memory is reassigned by task, and every call has one body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers -/

abbrev xLoc (d : Dev nD) : Loc nD τ sig := (SparseCore.T d).loc main_v0
abbrev iLoc (d : Dev nD) : Loc nD τ sig := (SparseCore.T d).loc main_arg1
abbrev wLoc (d : Dev nD) : Loc nD τ sig := (SparseCore.T d).loc main_v1
abbrev bLoc (d : Dev nD) : Loc nD τ sig := (SparseCore.T d).loc main_arg3
abbrev oLoc (d : Dev nD) : Loc nD τ sig := (SparseCore.T d).loc main_v2

/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- A SparseCore has sixteen tiles. -/
theorem nSub_eq : τ.nSub = 16 := rfl

/-! ## Arrays cut by a number each place carries -/

/-- The places of `S` that carry the number `i`. -/
abbrev fiber {ℓ : Loc nD τ sig} (S : Finset (Idx ℓ)) (κ : Idx ℓ → ℕ) (i : ℕ) : Finset (Idx ℓ) := S.filter fun j => κ j = i

/-- Holding the places of `S` is holding, for each number below `n`, those that carry it. -/
theorem pts_fibers {ℓ : Loc nD τ sig} (n : ℕ) (S : Finset (Idx ℓ)) (κ : Idx ℓ → ℕ) (h : ∀ j ∈ S, κ j < n) (q : PosShare TreeShare) (f : Buf (Elt F) ℓ) :
    (ℓ ↦[S]{q} f : sProp 𝕄) = bigSep Finset.univ fun i : Fin n => ℓ ↦[fiber S κ i.val]{q} f := by
  classical
  rw [← pointsTo_biUnion Finset.univ (ℓ := ℓ) (fun i : Fin n => fiber S κ i.val)]
  · congr 1
    ext j
    simp only [Finset.mem_biUnion, Finset.mem_univ, true_and, Finset.mem_filter]
    exact ⟨fun hj => ⟨⟨κ j, h j hj⟩, hj, rfl⟩, fun ⟨_, hj, _⟩ => hj⟩
  · intro i _ i' _ hne
    rw [Finset.disjoint_left]
    intro j hj hj'
    exact hne (Fin.ext ((Finset.mem_filter.mp hj).2.symm.trans (Finset.mem_filter.mp hj').2))

/-- The pieces, each at contents of its own, are the whole at some contents. -/
theorem pts_fibers_join {ℓ : Loc nD τ sig} (n : ℕ) (κ : Idx ℓ → ℕ) (h : ∀ j, κ j < n) (q : PosShare TreeShare) (f₀ : Buf (Elt F) ℓ) :
    (bigSep Finset.univ fun i : Fin n => iprop(∃ f, ℓ ↦[fiber Finset.univ κ i.val]{q} f)) ⊢ (iprop(∃ f, ℓ ↦{q} f) : sProp 𝕄) := by
  classical
  haveI : Nonempty (Buf (Elt F) ℓ) := ⟨f₀⟩
  refine (bigSep_exists_pi Finset.univ (fun (i : Fin n) (f : Buf (Elt F) ℓ) => (ℓ ↦[fiber Finset.univ κ i.val]{q} f : sProp 𝕄))).trans ?_
  iintro ⟨%fs, H⟩
  ihave H' := (pointsTo_biUnion_join Finset.univ (fun i : Fin n => fiber Finset.univ κ i.val) fs f₀ (by
    intro i _ i' _ hne
    rw [Finset.disjoint_left]
    intro j hj hj'
    exact hne (Fin.ext ((Finset.mem_filter.mp hj).2.symm.trans (Finset.mem_filter.mp hj').2)))) $$ H
  icases H' with ⟨%g, -, Hg⟩
  rw [show (Finset.univ.biUnion fun i : Fin n => fiber (ℓ := ℓ) Finset.univ κ i.val) = Finset.univ from by
    ext j
    simp only [Finset.mem_biUnion, Finset.mem_univ, true_and, Finset.mem_filter, iff_true]
    exact ⟨⟨κ j, h j⟩, rfl⟩]
  iexists g; iexact Hg

/-- The tile whose stretch a node is in. -/
abbrev nodeTile (j : S100000.Idx) : ℕ := (j 0).val / 6256
/-- The reducing tile a group is summed by. -/
abbrev groupTile (j : S1024.Idx) : ℕ := (j 0).val / 128
/-- The tile whose table a word of the shared memory is in. -/
abbrev wordRow (j : S16384.Idx) : ℕ := (j 0).val / 1024
/-- The reducing tile a word of the shared memory goes to. -/
abbrev wordCol (j : S16384.Idx) : ℕ := (j 0).val % 1024 / 128

/-- A node's tile is one of sixteen. -/
theorem nodeTile_lt (j : S100000.Idx) : nodeTile j < 16 := by have h : (j 0).val < 100000 := (j 0).isLt; unfold nodeTile; omega
/-- A group's tile is one of sixteen. -/
theorem groupTile_lt (j : S1024.Idx) : groupTile j < 16 := by have h : (j 0).val < 1024 := (j 0).isLt; unfold groupTile; omega
/-- A word's table is one of sixteen. -/
theorem wordRow_lt (j : S16384.Idx) : wordRow j < 16 := by have h : (j 0).val < 16384 := (j 0).isLt; unfold wordRow; omega
/-- The tile that a word goes to is one of sixteen. -/
theorem wordCol_lt (j : S16384.Idx) : wordCol j < 16 := by unfold wordCol; omega

abbrev nodeSet (i : ℕ) : Finset S100000.Idx := Finset.univ.filter fun j => nodeTile j = i
abbrev groupSet (i : ℕ) : Finset S1024.Idx := Finset.univ.filter fun j => groupTile j = i
abbrev rowSet (i : ℕ) : Finset S16384.Idx := Finset.univ.filter fun j => wordRow j = i
abbrev colSet (i : ℕ) : Finset S16384.Idx := Finset.univ.filter fun j => wordCol j = i
/-- The words of tile `r`'s table that go to tile `c`. -/
abbrev pieceSet (r c : ℕ) : Finset S16384.Idx := (colSet c).filter fun j => wordRow j = r
/-- The words of a table that go to a tile are the words that go to it and are of the table. -/
theorem pieceSet_eq (r c : ℕ) : (rowSet r).filter (fun j => wordCol j = c) = pieceSet r c := by
  ext j; simp only [Finset.mem_filter, Finset.mem_univ, true_and, and_comm]

variable [FloatOps F]

variable (vx : (d : Dev nD) → Buf (Elt F) (xLoc d)) (vi : (d : Dev nD) → Buf (Elt F) (iLoc d)) (vw : (d : Dev nD) → Buf (Elt F) (wLoc d))
  (vb : (d : Dev nD) → Buf (Elt F) (bLoc d)) (vo : (d : Dev nD) → Buf (Elt F) (oLoc d))

/-- What the shared memory holds once every tile has put its table there. -/
abbrev shVal (d : Dev nD) (c : Fin τ.nSC) : Buf (Elt F) (shLoc d c) := tables (vx d) (vi d)
/-- What the kernel writes. -/
abbrev outVal (d : Dev nD) : Buf (Elt F) (oLoc d) := result (vx d) (vi d) (vw d) (vb d)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
/-- The barrier's semaphore is not the one that starts a task. -/
theorem sc_bar0_ne_go : (sc_bar0 : Sem sig) ≠ sc_go := by decide

/-- Whether a semaphore is a tile's barrier semaphore. -/
def isBar (g : GSem nD τ sig) : Bool :=
  match g with
  | ((_, .scVector _ _), sm) => decide (sm = .reg sc_bar0)
  | _ => false

omit [FloatOps F] in
/-- A tile's barrier semaphore is one. -/
@[simp] theorem isBar_bcell (d : Dev nD) (c : Fin τ.nSC) (j : Fin τ.nSub) : isBar (bcell d c j) = true := by simp [isBar]

/-- What tile `n` hands over in tile `j`'s round: the words of its table that go to `j`, filled in. -/
def bPay (g : GSem nD τ sig) (n : ℕ) : sProp 𝕄 :=
  match g with
  | ((d, .scVector c j), _) => shLoc d c ↦[pieceSet n j.val]{fullShare} shVal vx vi d c
  | _ => iprop(emp)

/-- The barrier cells' schedule: one round on each, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay vx vi g n
  amount_pos _ _ _ _ := Nat.one_pos

instance bRd_payload_storable (g : GSem nD τ sig) (r n : ℕ) : BI.Storable (upEmb : UEmb _ 𝕄) ((bRd (F := F) vx vi).payload g r n) := by
  show BI.Storable upEmb (bPay vx vi g n)
  unfold bPay
  rcases g with ⟨⟨d, _ | c | ⟨c, i⟩⟩, sm⟩ <;> dsimp only <;> infer_instance

/-- In the first round of a barrier cell every tile of the SparseCore has a duty. -/
theorem bRd_duties₀ (d : Dev nD) (c : Fin τ.nSC) (j : Fin τ.nSub) : (bRd (F := F) vx vi).duties (bcell d c j) 0 = (Finset.univ : Finset (Fin τ.nSub)).image Fin.val := by
  simp [bRd, isBar]
/-- No later round has one. -/
theorem bRd_duties_succ (g : GSem nD τ sig) (r : ℕ) (hr : 1 ≤ r) : (bRd (F := F) vx vi).duties g r = ∅ :=
  if_neg fun h => absurd h.2 (Nat.ne_of_gt hr)
/-- A given tile has a duty in the first round. -/
theorem bRd_mem₀ (d : Dev nD) (c : Fin τ.nSC) (j i : Fin τ.nSub) : i.val ∈ (bRd (F := F) vx vi).duties (bcell d c j) 0 := by
  rw [bRd_duties₀]; exact Finset.mem_image_of_mem _ (Finset.mem_univ i)
/-- The first round expects as many units as there are tiles. -/
theorem bRd_expect (d : Dev nD) (c : Fin τ.nSC) (j : Fin τ.nSub) : 0 + grid0.bound 1 = (bRd (F := F) vx vi).expect (bcell d c j) 0 := by
  have key : (bRd (F := F) vx vi).expect (bcell d c j) 0 = ((Finset.univ : Finset (Fin τ.nSub)).image Fin.val).card := by
    rw [Finset.card_eq_sum_ones, ← bRd_duties₀ vx vi d c j]; rfl
  rw [key, Finset.card_image_of_injective _ Fin.val_injective, Finset.card_univ, Fintype.card_fin]; rfl

/-- What tile `(0, i)` owes for the barrier: a unit on every tile's cell of its SparseCore. -/
def oxV (d : Dev nD) (c : Fin τ.nSC) : CellTallies nD τ sig (HIx 1) := ∑ j : Fin (grid0.bound 1), tallyAt (bcell d c (j.castLE hsub0)) (some 0) 1

omit [FloatOps F] in
/-- What is owed at a semaphore under a label, as a number: how many tiles have that semaphore as their barrier's. -/
theorem oxV_at (d : Dev nD) (c : Fin τ.nSC) (g : GSem nD τ sig) (ι : HIx 1) :
    oxV d c g ι = ∑ j : Fin (grid0.bound 1), if g = bcell d c (j.castLE hsub0) ∧ ι = some 0 then 1 else 0 := by
  simp only [oxV, Finset.sum_apply, Finsupp.finsetSum_apply, tallyAt_apply]

omit [FloatOps F] in
/-- Nothing is owed under the empty label. -/
theorem oxV_none (d : Dev nD) (c : Fin τ.nSC) (g : GSem nD τ sig) : oxV d c g none = 0 := by
  simp [oxV_at]

omit [FloatOps F] in
/-- Where something is owed is some tile's barrier semaphore, and the label is the call's. -/
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  by_contra hno
  push Not at hno
  rw [oxV_at, Finset.sum_eq_zero fun j _ => if_neg fun e => hno j e.1 e.2] at h
  exact Nat.lt_irrefl 0 h

/-- Tile `(c, i)`'s barrier kit: every tile's cell invariant and that each has reached round 0, its own position,
    its duty token in every tile's round, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) vx vi) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The read share of the weight and of the bias that tile `i` holds. -/
abbrev rshare (i : Fin 16) : PosShare TreeShare := Transfers.shareTok fullShare 16 i

/-- The five arrays whole, the result at contents `f`. -/
abbrev allPts (d : Dev nD) (f : Buf (Elt F) (oLoc d)) : sProp 𝕄 :=
  iprop((xLoc d ↦{fullShare} vx d) ∗ (iLoc d ↦{fullShare} vi d) ∗ (wLoc d ↦{fullShare} vw d) ∗ (bLoc d ↦{fullShare} vb d) ∗ (oLoc d ↦{fullShare} f))
/-- Tile `i`'s part of them. -/
abbrev partPts (d : Dev nD) (i : Fin 16) (f : Buf (Elt F) (oLoc d)) : sProp 𝕄 :=
  iprop((xLoc d ↦[nodeSet i.val]{fullShare} vx d) ∗ (iLoc d ↦[nodeSet i.val]{fullShare} vi d) ∗ (wLoc d ↦{rshare i} vw d) ∗ (bLoc d ↦{rshare i} vb d)
    ∗ (oLoc d ↦[groupSet i.val]{fullShare} f))
/-- The barrier semaphores of the tasks, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

set_option backward.proofsInPublic true in
/-- The call takes the five arrays whole, each task its part of them and its words of the shared memory; it brings back
    its part, the result's piece filled in, the words of the shared memory that came to it, and its barrier semaphore. -/
def P : (K (F := F)).Pay (nD := nD) (Val := Elt F) (Name := ℕ) (U := UU) where
  st := fun q d _ => match q with | 0 => allPts vx vi vw vb d (vo d)
  dn := fun q d c => match q with | 0 => iprop(allPts vx vi vw vb d (outVal vx vi vw vb d) ∗ bars d c)
  go := fun q d c i => match q with
    | 0 => iprop(partPts vx vi vw vb d (Fin.cast nSub_zero i) (vo d) ∗ ∃ f, shLoc d (coreOf c) ↦[rowSet i.val]{fullShare} f)
  td := fun q d c i => match q with
    | 0 => iprop((partPts vx vi vw vb d (Fin.cast nSub_zero i) (outVal vx vi vw vb d) ∗ ∃ f, shLoc d (coreOf c) ↦[colSet i.val]{fullShare} f)
        ∗ semVal (bcell d (coreOf c) ((K (F := F)).sub 0 i)) 0)
  x := fun _ thr => match thr with
    | (d, .scVector c i) => if c.val < 1 then bkit vx vi d c i else iprop(emp)
    | _ => iprop(emp)
  ox := fun _ thr => match thr with
    | (d, .scVector c _) => if c.val < 1 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) vx vi vw vb vo).IsStorable where
  st q d _ := match q with
    | 0 => (inferInstance : BI.Storable (upEmb : UEmb _ 𝕄) (allPts vx vi vw vb d (vo d)))
  dn q d _ := match q with
    | 0 => (inferInstance : BI.Storable (upEmb : UEmb _ 𝕄) iprop(allPts vx vi vw vb d (outVal vx vi vw vb d) ∗ bars d _))
  go q d c i := match q with
    | 0 => (inferInstance : BI.Storable (upEmb : UEmb _ 𝕄)
      iprop(partPts vx vi vw vb d (Fin.cast nSub_zero i) (vo d) ∗ ∃ f, shLoc d (coreOf c) ↦[rowSet i.val]{fullShare} f))
  td q d c i := match q with
    | 0 => (inferInstance : BI.Storable (upEmb : UEmb _ 𝕄)
      iprop((partPts vx vi vw vb d (Fin.cast nSub_zero i) (outVal vx vi vw vb d) ∗ ∃ f, shLoc d (coreOf c) ↦[colSet i.val]{fullShare} f) ∗ semVal _ 0))

end Cert.Proof.Setup

end
-- ==== Proof.Scatter.lean ====
/-
  One round of the loop: sixteen lanes read a group number and a value each and add the value to the table,
  and the loops of 391 and of 385 such rounds.
-/
module

public import proofs.«01_k».proof.Proof.Setup

@[expose] public section

noncomputable section

namespace Cert.Proof.Scatter

open Cert.KernelIdeal Cert.KernelIdeal.Gen
open Cert.Proof.Vals Cert.Proof.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

abbrev cV (L : grid0.Coords) : Fin τ.nSC := (L 0).castLE hcore0
abbrev jV (L : grid0.Coords) : Fin τ.nSub := (L 1).castLE hsub0

variable (d : Dev nD) (L : grid0.Coords)

section Pure
variable (xs : Vec F S100000 .f32) (ids : Vec F S100000 (EltTy.i32)) (i k : ℕ)

/-- A tile's chunk of an array of nodes: place `y` holds node `6256 * i + y`, up to the chunk's length. -/
def Chunk {e : EltTy} (a : Vec F S100000 e) (i : ℕ) (f : Vec F S6256 e) : Prop :=
  ∀ y : S6256.Idx, (y 0).val < 16 * rounds i → f y = a (spot 99999 (6256 * i + (y 0).val))

/-- The positions of round `k`: lane `l` at place `l * rounds i + k` of the chunk. -/
def AtRound (i k : ℕ) (p : IVec S16 32) : Prop := ∀ l : S16.Idx, (p l).toNat = (l 0).val * rounds i + k

/-- A tile has at most 391 rounds. -/
theorem rounds_le (i : ℕ) : rounds i ≤ 391 := by unfold rounds; split <;> omega

variable {xs ids i k} {p : IVec S16 32}

omit [FloatOps F] in
/-- In a round that runs, every lane reads inside the tile's buffers. -/
theorem AtRound.inPlace (hp : AtRound i k p) (hk : k < rounds i) : ∀ a x, ((![p] : Fin 1 → IVec S16 32) a x).toNat < S6256.size a := by
  intro a x
  obtain rfl := Fin.eq_zero a
  show (p x).toNat < 6256
  have hx : (x 0).val < 16 := (x 0).isLt
  have := rounds_le i
  rw [hp x]
  have : (x 0).val * rounds i ≤ 15 * rounds i := Nat.mul_le_mul_right _ (by omega)
  omega

omit [FloatOps F] in
/-- One more in every lane is the next round's positions. -/
theorem AtRound.next (hp : AtRound i k p) (hk : k < rounds i) (q : IVec S16 32) (hq : ∀ l, q l = p l + 1#32) : AtRound i (k + 1) q := by
  intro l
  have hx : (l 0).val < 16 := (l 0).isLt
  have := rounds_le i
  have h' : (l 0).val * rounds i ≤ 15 * rounds i := Nat.mul_le_mul_right _ (by omega)
  rw [hq l, BitVec.toNat_add, hp l]
  simp only [BitVec.toNat_ofNat]
  omega

omit [FloatOps F] in
/-- The lane's number times the count of rounds is the first round's positions. -/
theorem atRound_first {n : ℕ} (hr : rounds i = n) {q : IVec S16 32}
    (hq : ∀ l, q l = (iota .scVector S16 32 [0] iota_S16_d0_w32_scVector) l * BitVec.ofNat 32 n) : AtRound i 0 q := by
  intro l
  have hx : (l 0).val < 16 := (l 0).isLt
  have hn : n ≤ 391 := hr ▸ rounds_le i
  have h' : (l 0).val * n ≤ 15 * n := Nat.mul_le_mul_right _ (by omega)
  have hi : (iota .scVector S16 32 [0] iota_S16_d0_w32_scVector) l = BitVec.ofNat 32 (l 0).val := by
    show BitVec.ofNat 32 (0 * _ + (l 0).val) = _
    rw [Nat.zero_mul, Nat.zero_add]
  rw [hq l, hi, hr, BitVec.toNat_mul, BitVec.toNat_ofNat, BitVec.toNat_ofNat, Nat.mod_eq_of_lt (show (l 0).val < 2 ^ 32 by omega),
    Nat.mod_eq_of_lt (show n < 2 ^ 32 by omega), Nat.mod_eq_of_lt (by omega)]
  rfl

omit [FloatOps F] in
/-- What a gather at round `k`'s positions reads: each lane its node's entry. -/
theorem Chunk.gather {e : EltTy} {a : Vec F S100000 e} {f : Vec F S6256 e} (hf : Chunk a i f) (hp : AtRound i k p) (hk : k < rounds i)
    (h : ∀ a x, ((![p] : Fin 1 → IVec S16 32) a x).toNat < S6256.size a) (x : S16.Idx) :
    loadIdx f (![p] : Fin 1 → IVec S16 32) h x = a (spot 99999 (node i k (x 0).val)) := by
  have hx : (x 0).val < 16 := (x 0).isLt
  have h' : (x 0).val * rounds i ≤ 15 * rounds i := Nat.mul_le_mul_right _ (by omega)
  have hv : ((idxAt (![p] : Fin 1 → IVec S16 32) h x : S6256.Idx) 0).val = (x 0).val * rounds i + k := hp x
  show f (idxAt (![p] : Fin 1 → IVec S16 32) h x) = _
  rw [hf _ (by rw [hv]; omega), hv]
  rfl

/-- A scatter of round `k`'s lanes is the round's sixteen additions. -/
theorem scatter_eq (g : Vec F S1024 .f32) {v : IVec S16 32} {u : Vec F S16 .f32}
    (hv : ∀ x : S16.Idx, v x = ids (spot 99999 (node i k (x 0).val))) (hu : ∀ x : S16.Idx, u x = xs (spot 99999 (node i k (x 0).val)))
    (h : ∀ a x, ((![v] : Fin 1 → IVec S16 32) a x).toNat < S1024.size a) :
    storeIdx (F := F) (e := .f32) g (![v] : Fin 1 → IVec S16 32) u (fun _ => 1#1) true h = (List.finRange 16).foldl (addLane xs ids i k) g := by
  unfold storeIdx
  refine congrArg (fun f => List.foldl f g (List.finRange 16)) (funext fun g => funext fun l => ?_)
  funext j
  refine (congrFun (if_pos (rfl : (1#1 : BitVec 1) = 1)) j).trans ?_
  have e1 : v (Shape.ofLane l) = ids (spot 99999 (node i k l.val)) := hv _
  have e2 : u (Shape.ofLane l) = xs (spot 99999 (node i k l.val)) := hu _
  unfold addLane
  have hiff : (∀ a, (j a).val = ((idxAt (![v] : Fin 1 → IVec S16 32) h (Shape.ofLane l) : S1024.Idx) a).val) ↔ (j 0).val = (ids (spot 99999 (node i k l.val))).toNat := by
    rw [← e1]
    exact ⟨fun H => H 0, fun H a => by obtain rfl := Fin.eq_zero a; exact H⟩
  by_cases hc : (j 0).val = (ids (spot 99999 (node i k l.val))).toNat
  · refine (if_pos (hiff.mpr hc)).trans (Eq.trans ?_ (if_pos hc).symm)
    have hj : idxAt (![v] : Fin 1 → IVec S16 32) h (Shape.ofLane l) = j := (idx_ext (hiff.mpr hc 0)).symm
    exact congrArg₂ (Elt.idxAdd .f32) (congrArg g hj) e2
  · exact (if_neg (fun H => hc (hiff.mp H))).trans (if_neg hc).symm

/-- One round of the tile's loop — gather the ids, gather the values, scatter — takes the table on by a round. -/
theorem round_step {g : Vec F S1024 .f32} {fi : Vec F S6256 EltTy.i32} {fx : Vec F S6256 .f32} (hg : g = table xs ids i k)
    (hfi : Chunk ids i fi) (hfx : Chunk xs i fx) (hp : AtRound i k p) (hk : k < rounds i)
    {h1 : ∀ a x, ((![p] : Fin 1 → IVec S16 32) a x).toNat < S6256.size a} {h2 : ∀ a x, ((![p] : Fin 1 → IVec S16 32) a x).toNat < S6256.size a}
    {h3 : ∀ a x, ((![loadIdx (F := F) (e := EltTy.i32) fi (![p] : Fin 1 → IVec S16 32) h1] : Fin 1 → IVec S16 32) a x).toNat < S1024.size a} :
    storeIdx (F := F) (e := .f32) g (![loadIdx (F := F) (e := EltTy.i32) fi (![p] : Fin 1 → IVec S16 32) h1] : Fin 1 → IVec S16 32)
      (loadIdx (F := F) (e := .f32) fx (![p] : Fin 1 → IVec S16 32) h2) (fun _ => 1#1) true h3 = table xs ids i (k + 1) := by
  subst hg
  exact scatter_eq _ (fun x => hfi.gather hp hk _ x) (fun x => hfx.gather hp hk _ x) _

end Pure

section Then

/-- A stage before the rest: what the stage ends with is what the rest starts from. -/
theorem andThen {α β : Type} {thr : Thread nD τ} {p : Prog (TpuEff nD τ sig (Elt F) Λ₀ thr.2) β} {k : β → Prog (TpuEff nD τ sig (Elt F) Λ₀ thr.2) α}
    {A : sProp 𝕄} {B : β → sProp 𝕄} {Q : α → sProp 𝕄} (h : A ⊢ wp frame (wpE (defs₀ (F := F)) 𝒱₀ thr none) Set.univ p B) :
    A ⊢ iprop((∀ v, B v -∗ wp frame (wpE (defs₀ (F := F)) 𝒱₀ thr none) Set.univ (k v) Q)
      -∗ wp frame (wpE (defs₀ (F := F)) 𝒱₀ thr none) Set.univ (p >>= k) Q) := by
  rw [wp_bind]
  exact h.trans (wp_wand frame (wpE (defs₀ (F := F)) 𝒱₀ thr none) Set.univ)

end Then

section Loops
variable (vx : Dev nD → Vec F S100000 .f32) (vi : Dev nD → Vec F S100000 EltTy.i32)

/-- Between the rounds: the chunks as copied in, the table after `k` rounds, the positions of round `k`. -/
def scatterInv (fi : Vec F S6256 EltTy.i32) (fx : Vec F S6256 .f32) (k : ℕ) (p : IVec S16 32) : sProp 𝕄 :=
  iprop(⌜AtRound (L 1).val k p⌝
    ∗ ((idsM).view.loc (V d (cV L) (jV L)) ↦{fullShare} fi) ∗ ((xsM).view.loc (V d (cV L) (jV L)) ↦{fullShare} fx)
    ∗ ((accM).view.loc (V d (cV L) (jV L)) ↦{fullShare} table (vx d) (vi d) (L 1).val k))

/-- The loop of tiles 0 to 14 has 391 rounds. -/
theorem trips1 : k0_t1_loop.trips = 391 := by decide +kernel
/-- The last tile's loop has 385 rounds. -/
theorem trips2 : k0_t2_loop.trips = 385 := by decide +kernel

set_option maxHeartbeats 4000000 in
/-- The loop of the first fifteen tiles: from a table of zeros to the tile's table. -/
theorem scatter1 (h1 : k0_cond1 L = 1#1) (hr : rounds (L 1).val = 391) (a1 : BitVec 32) {fi : Vec F S6256 EltTy.i32} {fx : Vec F S6256 .f32}
    (hfi : Chunk (vi d) (L 1).val fi) (hfx : Chunk (vx d) (L 1).val fx) (hids : ∀ n, (vi d n).toNat < 1024) :
    iprop(((idsM).view.loc (V d (cV L) (jV L)) ↦{fullShare} fi) ∗ ((xsM).view.loc (V d (cV L) (jV L)) ↦{fullShare} fx)
        ∗ ((accM).view.loc (V d (cV L) (jV L)) ↦{fullShare} (fun _ => zeroF)) : sProp 𝕄)
      ⊢ wp frame (wpE (defs₀ (F := F)) 𝒱₀ (V d (cV L) (jV L)) none) Set.univ
          (Scf.Loop.for k0_t1_loop (k0_t1_ok L h1) k0_pay11 (k0_t1_body L xM (Memref.isWhole_whole _) iM (Memref.isWhole_whole _) wM (Memref.isWhole_whole _) bM (Memref.isWhole_whole _) oM (Memref.isWhole_whole _)
            idsM (Memref.isWhole_whole _) xsM (Memref.isWhole_whole _) accM (Memref.isWhole_whole _) partM (Memref.isWhole_whole _) outM (Memref.isWhole_whole _) wbM (Memref.isWhole_whole _)
            cc0_scratch6 cc0_scratch7 cc0_scratch8 cc0_scratch9 cc0_scratch10 cc0_scratch11 shM (Memref.isWhole_whole _) cc0_scoped0 cc0_scoped1 a1 h1))
          fun _ => iprop(((idsM).view.loc (V d (cV L) (jV L)) ↦{fullShare} fi) ∗ ((xsM).view.loc (V d (cV L) (jV L)) ↦{fullShare} fx)
            ∗ ((accM).view.loc (V d (cV L) (jV L)) ↦{fullShare} table (vx d) (vi d) (L 1).val (rounds (L 1).val))) := by
  rw [← _root_.bind_pure (Scf.Loop.for _ _ _ _)]
  iintro ⟨Hids, Hxs, Hacc⟩
  sl_for (scatterInv d L vx vi fi fx) $$ [Hids Hxs Hacc]
  case region =>
    intro kk acc
    unfold scatterInv
    iintro ⟨%hp, Hids, Hxs, Hacc⟩
    have hk : kk.val < rounds (L 1).val := by rw [hr, ← trips1]; exact kk.isLt
    have hc1 : k0_chk1 L acc := ⟨fun _ => hp.inPlace hk, fun _ => hp.inPlace hk⟩
    sl_exec
    iapply (SparseCore.wp_vectorLoadIdx 𝒱₀ (V d (cV L) (jV L)) none Set.univ (base := idsM) (S := Finset.univ) (Finset.subset_univ _)) $$ Hids
    iintro Hids
    have hfi' : Chunk (vi d) (L 1).val (View.read (Elt F) ((idsM).access (Rect.whole cc0_scratch0.ty.shape)) fi) := by
      rw [Memref.read_access_whole]; exact hfi
    have hfx' : Chunk (vx d) (L 1).val (View.read (Elt F) ((xsM).access (Rect.whole cc0_scratch1.ty.shape)) fx) := by
      rw [Memref.read_access_whole]; exact hfx
    have hc2 : k0_chk2 L (loadIdx (View.read (Elt F) ((idsM).access (Rect.whole cc0_scratch0.ty.shape)) fi) (![acc] : Fin 1 → IVec S16 32) (hp.inPlace hk)) := fun _ a x => by
      obtain rfl := Fin.eq_zero a
      exact lt_of_eq_of_lt (congrArg BitVec.toNat (hfi'.gather hp hk (hp.inPlace hk) x)) (hids _)
    sl_exec
    iapply (SparseCore.wp_vectorLoadIdx 𝒱₀ (V d (cV L) (jV L)) none Set.univ (base := xsM) (S := Finset.univ) (Finset.subset_univ _)) $$ Hxs
    iintro Hxs
    iapply (SparseCore.wp_vectorStoreIdx 𝒱₀ (V d (cV L) (jV L)) none Set.univ (base := accM)) $$ [Hacc]
    · rw [Memref.set_access_whole]; iexact Hacc
    iintro Hacc
    rw [Memref.write_access_whole_univ, round_step (Memref.read_access_whole _ _ _) hfi' hfx' hp hk, Memref.set_access_whole]
    sl_step
    isplitr
    · ipureintro; exact hp.next hk _ (fun _ => rfl)
    isplitl [Hids]; · iexact Hids
    isplitl [Hxs]; · iexact Hxs
    iexact Hacc
  · unfold scatterInv
    isplitr
    · ipureintro; exact atRound_first hr (fun _ => rfl)
    isplitl [Hids]; · iexact Hids
    isplitl [Hxs]; · iexact Hxs
    iexact Hacc
  iintro %p HI
  unfold scatterInv
  icases HI with ⟨-, Hids, Hxs, Hacc⟩
  rw [show Scf.trips k0_t1_loop.lb k0_t1_loop.ub k0_t1_loop.st = rounds (L 1).val from trips1.trans hr.symm]
  sl_step
  isplitl [Hids]; · iexact Hids
  isplitl [Hxs]; · iexact Hxs
  iexact Hacc

set_option maxHeartbeats 4000000 in
/-- The loop of the last tile, which takes fewer rounds. -/
theorem scatter2 (h2 : k0_cond2 L = 1#1) (hr : rounds (L 1).val = 385) {fi : Vec F S6256 EltTy.i32} {fx : Vec F S6256 .f32}
    (hfi : Chunk (vi d) (L 1).val fi) (hfx : Chunk (vx d) (L 1).val fx) (hids : ∀ n, (vi d n).toNat < 1024) :
    iprop(((idsM).view.loc (V d (cV L) (jV L)) ↦{fullShare} fi) ∗ ((xsM).view.loc (V d (cV L) (jV L)) ↦{fullShare} fx)
        ∗ ((accM).view.loc (V d (cV L) (jV L)) ↦{fullShare} (fun _ => zeroF)) : sProp 𝕄)
      ⊢ wp frame (wpE (defs₀ (F := F)) 𝒱₀ (V d (cV L) (jV L)) none) Set.univ
          (Scf.Loop.for k0_t2_loop (k0_t2_ok L h2) k0_pay13 (k0_t2_body L xM (Memref.isWhole_whole _) iM (Memref.isWhole_whole _) wM (Memref.isWhole_whole _) bM (Memref.isWhole_whole _) oM (Memref.isWhole_whole _)
            idsM (Memref.isWhole_whole _) xsM (Memref.isWhole_whole _) accM (Memref.isWhole_whole _) partM (Memref.isWhole_whole _) outM (Memref.isWhole_whole _) wbM (Memref.isWhole_whole _)
            cc0_scratch6 cc0_scratch7 cc0_scratch8 cc0_scratch9 cc0_scratch10 cc0_scratch11 shM (Memref.isWhole_whole _) cc0_scoped0 cc0_scoped1 h2))
          fun _ => iprop(((idsM).view.loc (V d (cV L) (jV L)) ↦{fullShare} fi) ∗ ((xsM).view.loc (V d (cV L) (jV L)) ↦{fullShare} fx)
            ∗ ((accM).view.loc (V d (cV L) (jV L)) ↦{fullShare} table (vx d) (vi d) (L 1).val (rounds (L 1).val))) := by
  rw [← _root_.bind_pure (Scf.Loop.for _ _ _ _)]
  iintro ⟨Hids, Hxs, Hacc⟩
  sl_for (scatterInv d L vx vi fi fx) $$ [Hids Hxs Hacc]
  case region =>
    intro kk acc
    unfold scatterInv
    iintro ⟨%hp, Hids, Hxs, Hacc⟩
    have hk : kk.val < rounds (L 1).val := by rw [hr, ← trips2]; exact kk.isLt
    have hc1 : k0_chk3 L acc := ⟨fun _ => hp.inPlace hk, fun _ => hp.inPlace hk⟩
    sl_exec
    iapply (SparseCore.wp_vectorLoadIdx 𝒱₀ (V d (cV L) (jV L)) none Set.univ (base := idsM) (S := Finset.univ) (Finset.subset_univ _)) $$ Hids
    iintro Hids
    have hfi' : Chunk (vi d) (L 1).val (View.read (Elt F) ((idsM).access (Rect.whole cc0_scratch0.ty.shape)) fi) := by
      rw [Memref.read_access_whole]; exact hfi
    have hfx' : Chunk (vx d) (L 1).val (View.read (Elt F) ((xsM).access (Rect.whole cc0_scratch1.ty.shape)) fx) := by
      rw [Memref.read_access_whole]; exact hfx
    have hc2 : k0_chk4 L (loadIdx (View.read (Elt F) ((idsM).access (Rect.whole cc0_scratch0.ty.shape)) fi) (![acc] : Fin 1 → IVec S16 32) (hp.inPlace hk)) := fun _ a x => by
      obtain rfl := Fin.eq_zero a
      exact lt_of_eq_of_lt (congrArg BitVec.toNat (hfi'.gather hp hk (hp.inPlace hk) x)) (hids _)
    sl_exec
    iapply (SparseCore.wp_vectorLoadIdx 𝒱₀ (V d (cV L) (jV L)) none Set.univ (base := xsM) (S := Finset.univ) (Finset.subset_univ _)) $$ Hxs
    iintro Hxs
    iapply (SparseCore.wp_vectorStoreIdx 𝒱₀ (V d (cV L) (jV L)) none Set.univ (base := accM)) $$ [Hacc]
    · rw [Memref.set_access_whole]; iexact Hacc
    iintro Hacc
    rw [Memref.write_access_whole_univ, round_step (Memref.read_access_whole _ _ _) hfi' hfx' hp hk, Memref.set_access_whole]
    sl_step
    isplitr
    · ipureintro; exact hp.next hk _ (fun _ => rfl)
    isplitl [Hids]; · iexact Hids
    isplitl [Hxs]; · iexact Hxs
    iexact Hacc
  · unfold scatterInv
    isplitr
    · ipureintro; exact atRound_first hr (fun _ => rfl)
    isplitl [Hids]; · iexact Hids
    isplitl [Hxs]; · iexact Hxs
    iexact Hacc
  iintro %p HI
  unfold scatterInv
  icases HI with ⟨-, Hids, Hxs, Hacc⟩
  rw [show Scf.trips k0_t2_loop.lb k0_t2_loop.ub k0_t2_loop.st = rounds (L 1).val from trips2.trans hr.symm]
  sl_step
  isplitl [Hids]; · iexact Hids
  isplitl [Hxs]; · iexact Hxs
  iexact Hacc

end Loops

end Cert.Proof.Scatter

end
-- ==== Proof.Fill.lean ====
/-
  A tile's stretch: the copies in, and the loop that turns a cleared table into the tile's own.
-/
module

public import proofs.«01_k».proof.Proof.Scatter

@[expose] public section

noncomputable section

namespace Cert.Proof.Fill

open Cert.KernelIdeal Cert.KernelIdeal.Gen
open Cert.Proof.Vals Cert.Proof.Setup Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (d : Dev nD) (L : grid0.Coords)

section Pure

omit [FloatOps F] in
/-- A copy of the tile's stretch of nodes to the front of a chunk buffer leaves the chunk there. -/
theorem Chunk.of_copy {κ : Kind} {sp : Space} {e : EltTy} (a : Vec F S100000 e) (i : ℕ) (v : View sig κ sp S6256 e) (f : v.ty.Contents (Elt F))
    {size : Fin 1 → ℕ} (inb : ∀ a, (![0] : Fin 1 → ℕ) a + size a ≤ S6256.size a) (w : (Rect.unit (s := S6256) ![0] size inb).shape.Idx → Elt F e)
    (hn : 16 * rounds i ≤ size 0) (hw : ∀ x, w x = a (spot 99999 (6256 * i + (x 0).val))) :
    Chunk a i (v.read (Elt F) (v.writes (Elt F) f [⟨Rect.unit (s := S6256) ![0] size inb, w⟩])) := by
  intro y hy
  have hy' : (y 0).val < size 0 := lt_of_lt_of_le hy hn
  refine (View.read_writes_cons_hit_of_coords v f (Rect.unit (s := S6256) ![0] size inb) w [] (fun a => ⟨(y 0).val, by obtain rfl := Fin.eq_zero a; exact hy'⟩) y ?_).trans (hw _)
  intro a
  obtain rfl := Fin.eq_zero a
  show (y 0).val = 0 + 1 * (y 0).val
  omega

omit [FloatOps F] in
/-- A copy of the stretch's group numbers leaves the stretch in the tile's buffer, whatever lies past it. -/
theorem Chunk.of_copy_ids (a : Vec F S100000 EltTy.i32) (i : ℕ) (f : Vec F S6256 EltTy.i32)
    {size : Fin 1 → ℕ} (inb : ∀ a, (![0] : Fin 1 → ℕ) a + size a ≤ S6256.size a) (w : (Rect.unit (s := S6256) ![0] size inb).shape.Idx → Elt F EltTy.i32)
    (hn : 16 * rounds i ≤ size 0) (hw : ∀ x, w x = a (spot 99999 (6256 * i + (x 0).val))) :
    Chunk a i (((idsM).view.writes (Elt F) f [⟨Rect.unit (s := S6256) ![0] size inb, w⟩] : Vec F S6256 EltTy.i32)) :=
  Chunk.of_copy a i (idsM).view f inb w hn hw

omit [FloatOps F] in
/-- A copy of the stretch's values leaves the stretch in the tile's buffer, whatever lies past it. -/
theorem Chunk.of_copy_xs (a : Vec F S100000 .f32) (i : ℕ) (f : Vec F S6256 .f32)
    {size : Fin 1 → ℕ} (inb : ∀ a, (![0] : Fin 1 → ℕ) a + size a ≤ S6256.size a) (w : (Rect.unit (s := S6256) ![0] size inb).shape.Idx → Elt F .f32)
    (hn : 16 * rounds i ≤ size 0) (hw : ∀ x, w x = a (spot 99999 (6256 * i + (x 0).val))) :
    Chunk a i (((xsM).view.writes (Elt F) f [⟨Rect.unit (s := S6256) ![0] size inb, w⟩] : Vec F S6256 .f32)) :=
  Chunk.of_copy a i (xsM).view f inb w hn hw

omit [FloatOps F] in
/-- A place the stretch's rectangle sends, as the node it is. -/
theorem stretch_at {i : ℕ} {off size : Fin 1 → ℕ} (inb : ∀ a, off a + size a ≤ S100000.size a) (h : off 0 = 6256 * i)
    (x : (Rect.unit (s := S100000) off size inb).shape.Idx) : (Rect.unit (s := S100000) off size inb).emb x = spot 99999 (6256 * i + (x 0).val) := by
  have hx : (x 0).val < size 0 := (x 0).isLt
  have hb : off 0 + size 0 ≤ 100000 := inb 0
  refine idx_ext ?_
  rw [spot_val (by omega)]
  show off 0 + 1 * (x 0).val = _
  omega

omit [FloatOps F] in
/-- The stretch's rectangle holds exactly the tile's nodes. -/
theorem stretch_set {i : ℕ} (hi : i < 16) {off size : Fin 1 → ℕ} (inb : ∀ a, off a + size a ≤ S100000.size a) (h : off 0 = 6256 * i)
    (hs : size 0 = 16 * rounds i) : (Rect.unit (s := S100000) off size inb).set = nodeSet i := by
  ext j
  have hj : (j 0).val < 100000 := (j 0).isLt
  rw [Rect.mem_set_unit, Finset.mem_filter]
  constructor
  · intro H
    have := H 0
    unfold rounds at hs
    refine ⟨Finset.mem_univ _, ?_⟩
    show (j 0).val / 6256 = i
    split at hs <;> omega
  · rintro ⟨-, H⟩ a
    obtain rfl := Fin.eq_zero a
    have H' : (j 0).val / 6256 = i := H
    unfold rounds at hs
    split at hs <;> omega

end Pure

section Stage
variable (vx : Dev nD → Vec F S100000 .f32) (vi : Dev nD → Vec F S100000 EltTy.i32) (vw vb : Dev nD → Vec F S1 .f32)

/-- The weight and the bias where the tile keeps them. -/
def WB (w b : Vec F S1 .f32) (f : Vec F S16 .f32) : Prop := f (spot 15 0) = w (spot 0 0) ∧ f (spot 15 8) = b (spot 0 0)

omit [FloatOps F] in
/-- A copy of the weight to place 0 and of the bias to place 8 leave them there. -/
theorem WB.of_copies (w b : Vec F S1 .f32) (f : Vec F S16 .f32) :
    WB w b ((wbM).view.writes (Elt F) f [⟨Rect.unit (s := S16) ![8] S1.size inb_S16_S1_8, b⟩, ⟨Rect.unit (s := S16) ![0] S1.size inb_S16_S1_0, w⟩]) := by
  constructor
  · refine Eq.trans (View.read_writes_cons_miss_of_axis (v := (wbM).view) (f := f) ⟨Rect.unit (s := S16) ![8] S1.size inb_S16_S1_8, b⟩ [⟨Rect.unit (s := S16) ![0] S1.size inb_S16_S1_0, w⟩] (spot 15 0) 0 8 1 rfl rfl rfl (.inl (by decide))) ?_
    exact View.read_writes_cons_hit_of_coords (wbM).view f (Rect.unit (s := S16) ![0] S1.size inb_S16_S1_0) w [] (spot 0 0) (spot 15 0) (fun a => by obtain rfl := Fin.eq_zero a; rfl)
  · exact View.read_writes_cons_hit_of_coords (wbM).view f (Rect.unit (s := S16) ![8] S1.size inb_S16_S1_8) b [⟨Rect.unit (s := S16) ![0] S1.size inb_S16_S1_0, w⟩] (spot 0 0) (spot 15 8) (fun a => by obtain rfl := Fin.eq_zero a; rfl)

set_option maxHeartbeats 4000000 in
/-- The first fifteen tiles: the chunk copied in, the weight and the bias, and the loop run to its end. -/
theorem fill1 [∀ e, Nonempty (Elt F e)] (h1 : k0_cond1 L = 1#1) (hr : rounds (L 1).val = 391) (hids : ∀ n, (vi d n).toNat < 1024)
    (O : CellTallies nD τ sig (HIx 1)) (W : Waits sig (HIx 1)) (a1 : BitVec 32) (q : PosShare TreeShare)
    (_plan : Transfers.BatchOf (V d (cV L) (jV L)) (SemLoc.dma (sig := sig) cc0_scratch6.sem) 2 (windows := true))
    (fi : Vec F S6256 EltTy.i32) (fx : Vec F S6256 .f32) (fw : Vec F S16 .f32) :
    iprop(Transfers.MayWaits (V d (cV L) (jV L)) (default : HIx 1) O
      ∗ (((iM).slice (Rect.unit (s := S100000) (k0_off1 L) S6256.size (k0_off1_inb L h1)) (fun _ => rfl)).view.loc (V d (cV L) (jV L)) ↦[((iM).slice (Rect.unit (s := S100000) (k0_off1 L) S6256.size (k0_off1_inb L h1)) (fun _ => rfl)).view.set]{fullShare} vi d)
      ∗ (((xM).slice (Rect.unit (s := S100000) (k0_off1 L) S6256.size (k0_off1_inb L h1)) (fun _ => rfl)).view.loc (V d (cV L) (jV L)) ↦[((xM).slice (Rect.unit (s := S100000) (k0_off1 L) S6256.size (k0_off1_inb L h1)) (fun _ => rfl)).view.set]{fullShare} vx d)
      ∗ ((wM).view.loc (V d (cV L) (jV L)) ↦{q} vw d) ∗ ((bM).view.loc (V d (cV L) (jV L)) ↦{q} vb d)
      ∗ ((idsM).view.loc (V d (cV L) (jV L)) ↦{fullShare} fi) ∗ ((xsM).view.loc (V d (cV L) (jV L)) ↦{fullShare} fx) ∗ ((wbM).view.loc (V d (cV L) (jV L)) ↦{fullShare} fw) ∗ ((accM).view.loc (V d (cV L) (jV L)) ↦{fullShare} (fun _ => zeroF))
      ∗ semVal ((V d (cV L) (jV L)), .dma cc0_scratch6.sem) 0 ∗ semVal ((V d (cV L) (jV L)), .dma cc0_scratch7.sem) 0 ∗ semVal ((V d (cV L) (jV L)), .dma cc0_scratch8.sem) 0
      ∗ owes (V d (cV L) (jV L)) O W : sProp 𝕄)
      ⊢ wp frame (wpE (defs₀ (F := F)) 𝒱₀ (V d (cV L) (jV L)) none) Set.univ (k0_part1 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 a1 h1)
          fun _ => iprop((((iM).slice (Rect.unit (s := S100000) (k0_off1 L) S6256.size (k0_off1_inb L h1)) (fun _ => rfl)).view.loc (V d (cV L) (jV L)) ↦[((iM).slice (Rect.unit (s := S100000) (k0_off1 L) S6256.size (k0_off1_inb L h1)) (fun _ => rfl)).view.set]{fullShare} vi d)
      ∗ (((xM).slice (Rect.unit (s := S100000) (k0_off1 L) S6256.size (k0_off1_inb L h1)) (fun _ => rfl)).view.loc (V d (cV L) (jV L)) ↦[((xM).slice (Rect.unit (s := S100000) (k0_off1 L) S6256.size (k0_off1_inb L h1)) (fun _ => rfl)).view.set]{fullShare} vx d)
      ∗ ((wM).view.loc (V d (cV L) (jV L)) ↦{q} vw d) ∗ ((bM).view.loc (V d (cV L) (jV L)) ↦{q} vb d)
      ∗ (∃ fi : Vec F S6256 EltTy.i32, ((idsM).view.loc (V d (cV L) (jV L)) ↦{fullShare} fi)) ∗ (∃ fx : Vec F S6256 .f32, ((xsM).view.loc (V d (cV L) (jV L)) ↦{fullShare} fx))
      ∗ (∃ fw : Vec F S16 .f32, ⌜WB (vw d) (vb d) fw⌝ ∗ ((wbM).view.loc (V d (cV L) (jV L)) ↦{fullShare} fw))
      ∗ ((accM).view.loc (V d (cV L) (jV L)) ↦{fullShare} table (vx d) (vi d) (L 1).val (rounds (L 1).val))
      ∗ semVal ((V d (cV L) (jV L)), .dma cc0_scratch6.sem) 0 ∗ semVal ((V d (cV L) (jV L)), .dma cc0_scratch7.sem) 0 ∗ semVal ((V d (cV L) (jV L)), .dma cc0_scratch8.sem) 0
      ∗ ∃ W', ⌜∀ p ∈ W', p ∈ W ∨ p.2 = none⌝ ∗ owes (V d (cV L) (jV L)) O W' : sProp 𝕄) := by
  rw [k0_part1_eq_skeleton]; unfold k0_part1_skel
  iintro ⟨#Hmw, Hi, Hx, Hw, Hb, Hids, Hxs, Hwb, Hacc, Hs6, Hs7, Hs8, HO⟩
  sl_exec
  ihave Hids' := (Entails.of_eq (rfl : (iprop(∃ f : Vec F S6256 EltTy.i32, ⌜Chunk (vi d) (L 1).val f⌝ ∗ ((idsM).view.loc (V d (cV L) (jV L)) ↦{fullShare} f)) : sProp 𝕄) = _)) $$ [Hids]
  · iexists _; isplitr; swap
    · iexact Hids
    · ipureintro
      refine Chunk.of_copy_ids (vi d) (L 1).val _ inb_S6256_S6256_0 _ ?_ ?_
      · rw [hr]; exact Nat.le_refl 6256
      · intro x
        exact congrArg (vi d) (stretch_at (k0_off1_inb L h1) (congrFun (k0_off1_eq L) 0) x)
  ihave Hxs' := (Entails.of_eq (rfl : (iprop(∃ f : Vec F S6256 .f32, ⌜Chunk (vx d) (L 1).val f⌝ ∗ ((xsM).view.loc (V d (cV L) (jV L)) ↦{fullShare} f)) : sProp 𝕄) = _)) $$ [Hxs]
  · iexists _; isplitr; swap
    · iexact Hxs
    · ipureintro
      refine Chunk.of_copy_xs (vx d) (L 1).val _ inb_S6256_S6256_0 _ ?_ ?_
      · rw [hr]; exact Nat.le_refl 6256
      · intro x
        exact congrArg (vx d) (stretch_at (k0_off1_inb L h1) (congrFun (k0_off1_eq L) 0) x)
  icases Hids' with ⟨%gi, %hgi, Hids⟩
  icases Hxs' with ⟨%gx, %hgx, Hxs⟩
  iapply (andThen (scatter1 d L vx vi h1 hr a1 hgi hgx hids)) $$ [Hids Hxs Hacc]
  · isplitl [Hids]; · iexact Hids
    isplitl [Hxs]; · iexact Hxs
    iexact Hacc
  iintro %p ⟨Hids, Hxs, Hacc⟩
  sl_step
  isplitl [Hi]; · iexact Hi
  isplitl [Hx]; · iexact Hx
  isplitl [Hw]; · iexact Hw
  isplitl [Hb]; · iexact Hb
  isplitl [Hids]; · iexists _; iexact Hids
  isplitl [Hxs]; · iexists _; iexact Hxs
  isplitl [Hwb]
  · iexists _; isplitr; swap
    · iexact Hwb
    · ipureintro
      exact WB.of_copies _ _ _
  isplitl [Hacc]; · iexact Hacc
  isplitl [Hs6]; · iexact Hs6
  isplitl [Hs7]; · iexact Hs7
  isplitl [Hs8]; · iexact Hs8
  iexists _; isplitr; swap
  · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

set_option maxHeartbeats 4000000 in
/-- The last tile: its shorter chunk copied in, the weight and the bias, and the loop run to its end. -/
theorem fill2 [∀ e, Nonempty (Elt F e)] (h2 : k0_cond2 L = 1#1) (hi15 : (L 1).val = 15) (hr : rounds (L 1).val = 385) (hids : ∀ n, (vi d n).toNat < 1024)
    (O : CellTallies nD τ sig (HIx 1)) (W : Waits sig (HIx 1)) (q : PosShare TreeShare)
    (_plan : Transfers.BatchOf (V d (cV L) (jV L)) (SemLoc.dma (sig := sig) cc0_scratch6.sem) 2 (windows := true))
    (fi : Vec F S6256 EltTy.i32) (fx : Vec F S6256 .f32) (fw : Vec F S16 .f32) :
    iprop(Transfers.MayWaits (V d (cV L) (jV L)) (default : HIx 1) O
      ∗ (((iM).slice (Rect.unit (s := S100000) ![93840] S6160.size inb_S100000_S6160_93840) (fun _ => rfl)).view.loc (V d (cV L) (jV L)) ↦[((iM).slice (Rect.unit (s := S100000) ![93840] S6160.size inb_S100000_S6160_93840) (fun _ => rfl)).view.set]{fullShare} vi d)
      ∗ (((xM).slice (Rect.unit (s := S100000) ![93840] S6160.size inb_S100000_S6160_93840) (fun _ => rfl)).view.loc (V d (cV L) (jV L)) ↦[((xM).slice (Rect.unit (s := S100000) ![93840] S6160.size inb_S100000_S6160_93840) (fun _ => rfl)).view.set]{fullShare} vx d)
      ∗ ((wM).view.loc (V d (cV L) (jV L)) ↦{q} vw d) ∗ ((bM).view.loc (V d (cV L) (jV L)) ↦{q} vb d)
      ∗ ((idsM).view.loc (V d (cV L) (jV L)) ↦{fullShare} fi) ∗ ((xsM).view.loc (V d (cV L) (jV L)) ↦{fullShare} fx) ∗ ((wbM).view.loc (V d (cV L) (jV L)) ↦{fullShare} fw) ∗ ((accM).view.loc (V d (cV L) (jV L)) ↦{fullShare} (fun _ => zeroF))
      ∗ semVal ((V d (cV L) (jV L)), .dma cc0_scratch6.sem) 0 ∗ semVal ((V d (cV L) (jV L)), .dma cc0_scratch9.sem) 0 ∗ semVal ((V d (cV L) (jV L)), .dma cc0_scratch10.sem) 0
      ∗ owes (V d (cV L) (jV L)) O W : sProp 𝕄)
      ⊢ wp frame (wpE (defs₀ (F := F)) 𝒱₀ (V d (cV L) (jV L)) none) Set.univ (do
            let v164 : IVec S16 32 ← k0_part2 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1
            let _v166 : IVec S16 32 ← Scf.Loop.for k0_t2_loop (k0_t2_ok L h2) v164 (k0_t2_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h2)
            pure PUnit.unit)
          fun _ => iprop((((iM).slice (Rect.unit (s := S100000) ![93840] S6160.size inb_S100000_S6160_93840) (fun _ => rfl)).view.loc (V d (cV L) (jV L)) ↦[((iM).slice (Rect.unit (s := S100000) ![93840] S6160.size inb_S100000_S6160_93840) (fun _ => rfl)).view.set]{fullShare} vi d)
      ∗ (((xM).slice (Rect.unit (s := S100000) ![93840] S6160.size inb_S100000_S6160_93840) (fun _ => rfl)).view.loc (V d (cV L) (jV L)) ↦[((xM).slice (Rect.unit (s := S100000) ![93840] S6160.size inb_S100000_S6160_93840) (fun _ => rfl)).view.set]{fullShare} vx d)
      ∗ ((wM).view.loc (V d (cV L) (jV L)) ↦{q} vw d) ∗ ((bM).view.loc (V d (cV L) (jV L)) ↦{q} vb d)
      ∗ (∃ fi : Vec F S6256 EltTy.i32, ((idsM).view.loc (V d (cV L) (jV L)) ↦{fullShare} fi)) ∗ (∃ fx : Vec F S6256 .f32, ((xsM).view.loc (V d (cV L) (jV L)) ↦{fullShare} fx))
      ∗ (∃ fw : Vec F S16 .f32, ⌜WB (vw d) (vb d) fw⌝ ∗ ((wbM).view.loc (V d (cV L) (jV L)) ↦{fullShare} fw))
      ∗ ((accM).view.loc (V d (cV L) (jV L)) ↦{fullShare} table (vx d) (vi d) (L 1).val (rounds (L 1).val))
      ∗ semVal ((V d (cV L) (jV L)), .dma cc0_scratch6.sem) 0 ∗ semVal ((V d (cV L) (jV L)), .dma cc0_scratch9.sem) 0 ∗ semVal ((V d (cV L) (jV L)), .dma cc0_scratch10.sem) 0
      ∗ ∃ W', ⌜∀ p ∈ W', p ∈ W ∨ p.2 = none⌝ ∗ owes (V d (cV L) (jV L)) O W' : sProp 𝕄) := by
  rw [k0_part2_eq_skeleton]; unfold k0_part2_skel
  iintro ⟨#Hmw, Hi, Hx, Hw, Hb, Hids, Hxs, Hwb, Hacc, Hs6, Hs7, Hs8, HO⟩
  sl_exec
  ihave Hids' := (Entails.of_eq (rfl : (iprop(∃ f : Vec F S6256 EltTy.i32, ⌜Chunk (vi d) (L 1).val f⌝ ∗ ((idsM).view.loc (V d (cV L) (jV L)) ↦{fullShare} f)) : sProp 𝕄) = _)) $$ [Hids]
  · iexists _; isplitr; swap
    · iexact Hids
    · ipureintro
      refine Chunk.of_copy_ids (vi d) (L 1).val _ inb_S6256_S6160_0 _ ?_ ?_
      · rw [hr]; exact Nat.le_refl 6160
      · intro x
        exact congrArg (vi d) (stretch_at inb_S100000_S6160_93840 (show 93840 = 6256 * (L 1).val by rw [hi15]) x)
  ihave Hxs' := (Entails.of_eq (rfl : (iprop(∃ f : Vec F S6256 .f32, ⌜Chunk (vx d) (L 1).val f⌝ ∗ ((xsM).view.loc (V d (cV L) (jV L)) ↦{fullShare} f)) : sProp 𝕄) = _)) $$ [Hxs]
  · iexists _; isplitr; swap
    · iexact Hxs
    · ipureintro
      refine Chunk.of_copy_xs (vx d) (L 1).val _ inb_S6256_S6160_0 _ ?_ ?_
      · rw [hr]; exact Nat.le_refl 6160
      · intro x
        exact congrArg (vx d) (stretch_at inb_S100000_S6160_93840 (show 93840 = 6256 * (L 1).val by rw [hi15]) x)
  icases Hids' with ⟨%gi, %hgi, Hids⟩
  icases Hxs' with ⟨%gx, %hgx, Hxs⟩
  iapply (andThen (scatter2 d L vx vi h2 hr hgi hgx hids)) $$ [Hids Hxs Hacc]
  · isplitl [Hids]; · iexact Hids
    isplitl [Hxs]; · iexact Hxs
    iexact Hacc
  iintro %p ⟨Hids, Hxs, Hacc⟩
  sl_step
  isplitl [Hi]; · iexact Hi
  isplitl [Hx]; · iexact Hx
  isplitl [Hw]; · iexact Hw
  isplitl [Hb]; · iexact Hb
  isplitl [Hids]; · iexists _; iexact Hids
  isplitl [Hxs]; · iexists _; iexact Hxs
  isplitl [Hwb]
  · iexists _; isplitr; swap
    · iexact Hwb
    · ipureintro
      exact WB.of_copies _ _ _
  isplitl [Hacc]; · iexact Hacc
  isplitl [Hs6]; · iexact Hs6
  isplitl [Hs7]; · iexact Hs7
  isplitl [Hs8]; · iexact Hs8
  iexists _; isplitr; swap
  · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

end Stage

end Cert.Proof.Fill

end
-- ==== Proof.Sums.lean ====
/-
  The sum of sixteen rows of one vector of sixteen groups, times the weight, plus the bias.
-/
module

public import proofs.«01_k».proof.Proof.Fill

@[expose] public section

noncomputable section

namespace Cert.Proof.Sums

open Cert.KernelIdeal Cert.KernelIdeal.Gen
open Cert.Proof.Vals Cert.Proof.Setup Cert.Proof.Scatter Cert.Proof.Fill

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (d : Dev nD) (L : grid0.Coords)

section Values
variable (xs : Vec F S100000 .f32) (ids : Vec F S100000 EltTy.i32) (w b : Vec F S1 .f32)

omit [FloatOps F] in
/-- A place a stretch of a rank-one array sends, as the place it is. -/
theorem rect_at {n : ℕ} {off size : Fin 1 → ℕ} (inb : ∀ a, off a + size a ≤ (⟨1, ![n + 1]⟩ : Shape).size a) {o : ℕ} (ho : off 0 = o)
    (x : (Rect.unit (s := (⟨1, ![n + 1]⟩ : Shape)) off size inb).shape.Idx) : (Rect.unit (s := (⟨1, ![n + 1]⟩ : Shape)) off size inb).emb x = spot n (o + (x 0).val) := by
  have hx : (x 0).val < size 0 := (x 0).isLt
  have hb : off 0 + size 0 ≤ n + 1 := inb 0
  refine idx_ext ?_
  rw [spot_val (by omega)]
  show off 0 + 1 * (x 0).val = _
  omega

/-- A word of the shared memory, in the table it belongs to. -/
theorem tables_at {r g : ℕ} (hr : r < 16) (hg : g < 1024) : tables xs ids (spot 16383 (1024 * r + g)) = table xs ids r (rounds r) (spot 1023 g) := by
  have h : ((spot 16383 (1024 * r + g)) 0).val = 1024 * r + g := spot_val (by omega)
  unfold tables
  rw [h, show (1024 * r + g) / 1024 = r by omega, show (1024 * r + g) % 1024 = g by omega]

/-- The words of the first `n` tiles' tables that reducing tile `j` sums, one tile after another. -/
def PartTo (j n : ℕ) (f : Vec F S2048 .f32) : Prop :=
  ∀ r y, r < n → y < 128 → f (spot 2047 (128 * r + y)) = table xs ids r (rounds r) (spot 1023 (128 * j + y))

/-- A copy of the next tile's words. -/
theorem PartTo.step {j n o : ℕ} (f : Vec F S2048 .f32) (ps : List (View.Piece (Elt F) S2048 .f32))
    (h : PartTo xs ids j n ((partM).view.writes (Elt F) f ps)) (hn : n < 16) (ho : o = 128 * n)
    (inb : ∀ a, (![o] : Fin 1 → ℕ) a + S128.size a ≤ S2048.size a)
    (p : (Rect.unit (s := S2048) ![o] S128.size inb).shape.Idx → Elt F .f32)
    (hp : ∀ x, p x = table xs ids n (rounds n) (spot 1023 (128 * j + (x 0).val))) :
    PartTo xs ids j (n + 1) ((partM).view.writes (Elt F) f (⟨Rect.unit (s := S2048) ![o] S128.size inb, p⟩ :: ps)) := by
  intro r y hr hy
  have hs : ((spot 2047 (128 * r + y)) 0).val = 128 * r + y := spot_val (by omega)
  by_cases hrn : r < n
  · refine Eq.trans ?_ (h r y hrn hy)
    exact View.read_writes_cons_miss_of_axis (v := (partM).view) (f := f) ⟨Rect.unit (s := S2048) ![o] S128.size inb, p⟩ ps
      (spot 2047 (128 * r + y)) 0 o 128 rfl rfl rfl (.inl (by rw [hs]; omega))
  · obtain rfl : r = n := by omega
    refine Eq.trans ?_ (hp (spot 127 y)) |>.trans ?_
    · refine View.read_writes_cons_hit_of_coords (partM).view f (Rect.unit (s := S2048) ![o] S128.size inb) p ps _ _ ?_
      intro a
      obtain rfl := Fin.eq_zero a
      refine hs.trans ?_
      show _ = o + 1 * ((spot 127 y) 0).val
      rw [spot_val (by omega)]; omega
    · rw [spot_val (n := 127) (by omega)]

/-- Before the first copy nothing is claimed. -/
theorem partTo_zero (j : ℕ) (f : Vec F S2048 .f32) : PartTo xs ids j 0 f := fun _ _ h _ => absurd h (Nat.not_lt_zero _)

/-- Sixteen lanes hold the sums of the first `k` tiles' words for the groups from `128 * j + o` on. -/
def SumsTo (j o k : ℕ) (p : FVec F S16 .f32) : Prop := ∀ x : S16.Idx, p x = upTo xs ids (spot 1023 (128 * j + (o + (x 0).val))) k

/-- The sums start from zero. -/
theorem sumsTo_zero (j o : ℕ) {p : FVec F S16 .f32} (h : ∀ x, p x = zeroF) : SumsTo xs ids j o 0 p := fun x => h x

/-- The next tile's words added. -/
theorem SumsTo.next {xs : Vec F S100000 .f32} {ids : Vec F S100000 EltTy.i32} {j o k : ℕ} {p : FVec F S16 .f32} {f : Vec F S2048 .f32}
    (h : SumsTo xs ids j o k p) (hf : PartTo xs ids j 16 f) (hk : k < 16) (ho : o + 16 ≤ 128) {off : Fin 1 → ℕ} (hoff : off 0 = 128 * k + o)
    (inb : ∀ a, off a + S16.size a ≤ S2048.size a) :
    SumsTo xs ids j o (k + 1) (addf p (View.readAt (Elt F) (partM).view (Rect.unit (s := S2048) off S16.size inb).toLoadRect f)) := by
  intro x
  have hx : (x 0).val < 16 := (x 0).isLt
  refine (congrArg₂ FloatOps.addf (h x) ?_ : FloatOps.addf (p x) _ = _)
  refine (congrArg f (rect_at (n := 2047) inb hoff x)).trans ?_
  rw [Nat.add_assoc]
  exact hf k (o + (x 0).val) hk (by omega)

/-- The first `n` of reducing tile `j`'s results are in place. -/
def OutTo (j n : ℕ) (f : Vec F S128 .f32) : Prop := ∀ y, y < n → f (spot 127 y) = result xs ids w b (spot 1023 (128 * j + y))

/-- Before the first store nothing is claimed. -/
theorem outTo_zero (j : ℕ) (f : Vec F S128 .f32) : OutTo xs ids w b j 0 f := fun _ h => absurd h (Nat.not_lt_zero _)

/-- A store of the next sixteen. -/
theorem OutTo.step {xs : Vec F S100000 .f32} {ids : Vec F S100000 EltTy.i32} {w b : Vec F S1 .f32} {j n : ℕ} (f : Vec F S128 .f32)
    (ps : List (View.Piece (Elt F) S128 .f32)) (h : OutTo xs ids w b j n ((outM).view.writes (Elt F) f ps)) (hn : n + 16 ≤ 128)
    (inb : ∀ a, (![n] : Fin 1 → ℕ) a + S16.size a ≤ S128.size a)
    (p : (Rect.unit (s := S128) ![n] S16.size inb).shape.Idx → Elt F .f32)
    (hp : ∀ x, p x = result xs ids w b (spot 1023 (128 * j + (n + (x 0).val)))) :
    OutTo xs ids w b j (n + 16) ((outM).view.writes (Elt F) f (⟨Rect.unit (s := S128) ![n] S16.size inb, p⟩ :: ps)) := by
  intro y hy
  have hs : ((spot 127 y) 0).val = y := spot_val (by omega)
  by_cases hyn : y < n
  · refine Eq.trans ?_ (h y hyn)
    exact View.read_writes_cons_miss_of_axis (v := (outM).view) (f := f) ⟨Rect.unit (s := S128) ![n] S16.size inb, p⟩ ps
      (spot 127 y) 0 n 16 rfl rfl rfl (.inl (by rw [hs]; exact hyn))
  · refine Eq.trans ?_ (hp (spot 15 (y - n))) |>.trans ?_
    · refine View.read_writes_cons_hit_of_coords (outM).view f (Rect.unit (s := S128) ![n] S16.size inb) p ps _ _ ?_
      intro a
      obtain rfl := Fin.eq_zero a
      refine hs.trans ?_
      show _ = n + 1 * ((spot 15 (y - n)) 0).val
      rw [spot_val (by omega)]; omega
    · rw [spot_val (n := 15) (by omega), show n + (y - n) = y by omega]

/-- The sums scaled and shifted by the weight and the bias. -/
theorem finish {xs : Vec F S100000 .f32} {ids : Vec F S100000 EltTy.i32} {w b : Vec F S1 .f32} {j o : ℕ} {p : FVec F S16 .f32} {s t : F .f32}
    (h : SumsTo xs ids j o 16 p) (hs : s = w (spot 0 0)) (ht : t = b (spot 0 0)) (x : S16.Idx) :
    addf (mulf p (broadcast S16 s)) (broadcast S16 t) x = result xs ids w b (spot 1023 (128 * j + (o + (x 0).val))) := by
  show FloatOps.addf (FloatOps.mulf (p x) s) t = _
  rw [h x, hs, ht]; rfl

omit [FloatOps F] in
/-- The weight as read from its place. -/
theorem weight_at {w b : Vec F S1 .f32} {f : Vec F S16 .f32} (h : WB w b f) (inb : ∀ a, (![0] : Fin 1 → ℕ) a + S16.size a ≤ S16.size a) :
    k0_pay14 (View.readAt (Elt F) (wbM).view (Rect.unit (s := S16) ![0] S16.size inb).toLoadRect f) = w (spot 0 0) := by
  refine Eq.trans (b := f (spot 15 0)) ?_ h.1
  refine (congrArg f ?_ : f ((wbM).view.emb _) = f (spot 15 0))
  exact idx_ext rfl
omit [FloatOps F] in
/-- The bias as read from its place. -/
theorem bias_at {w b : Vec F S1 .f32} {f : Vec F S16 .f32} (h : WB w b f) (inb : ∀ a, (![0] : Fin 1 → ℕ) a + S16.size a ≤ S16.size a) :
    k0_pay15 (View.readAt (Elt F) (wbM).view (Rect.unit (s := S16) ![0] S16.size inb).toLoadRect f) = b (spot 0 0) := by
  refine Eq.trans (b := f (spot 15 8)) ?_ h.2
  refine (congrArg f ?_ : f ((wbM).view.emb _) = f (spot 15 8))
  exact idx_ext rfl

end Values

section Loops
variable (vx : Dev nD → Vec F S100000 .f32) (vi : Dev nD → Vec F S100000 EltTy.i32)

/-- Between the tiles: the words collected, and the sums so far. -/
def sumInv (o : ℕ) (f : Vec F S2048 .f32) (k : ℕ) (p : FVec F S16 .f32) : sProp 𝕄 :=
  iprop(⌜SumsTo (vx d) (vi d) (L 1).val o k p⌝ ∗ ((partM).view.loc (V d (cV L) (jV L)) ↦{fullShare} f))

/-- How often that loop runs. -/
theorem trips3 : k0_t3_loop.trips = 16 := by decide +kernel
set_option maxHeartbeats 4000000 in
/-- The loop over the tiles for groups 0 to 15 of the reducing tile. -/
theorem sums3 (h3 : k0_cond3 L = 1#1) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t3_loop (k0_t3_ok L h3) v (k0_t3_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3))
          fun r => iprop(⌜SumsTo (vx d) (vi d) (L 1).val 0 16 r⌝ ∗ ((partM).view.loc (V d (cV L) (jV L)) ↦{fullShare} f)) := by
  rw [← _root_.bind_pure (Scf.Loop.for _ _ _ _)]
  iintro Hpart
  sl_for (sumInv d L vx vi 0 f) $$ [Hpart]
  case region =>
    intro kk acc
    unfold sumInv
    iintro ⟨%hp, Hpart⟩
    have hk : kk.val < 16 := lt_of_lt_of_eq kk.isLt trips3
    sl_exec
    sl_step
    isplitr
    · ipureintro; exact hp.next hf hk (by omega) (congrFun (k0_off4_eq kk) 0) _
    iexact Hpart
  · unfold sumInv
    isplitr
    · ipureintro; exact sumsTo_zero _ _ _ _ hv
    iexact Hpart
  iintro %p HI
  unfold sumInv
  rw [show Scf.trips k0_t3_loop.lb k0_t3_loop.ub k0_t3_loop.st = 16 from trips3]
  sl_step
  iexact HI

/-- How often that loop runs. -/
theorem trips4 : k0_t4_loop.trips = 16 := by decide +kernel
set_option maxHeartbeats 4000000 in
/-- The loop over the tiles for groups 16 to 31 of the reducing tile. -/
theorem sums4 (h3 : k0_cond3 L = 1#1) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t4_loop (k0_t4_ok L h3) v (k0_t4_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3))
          fun r => iprop(⌜SumsTo (vx d) (vi d) (L 1).val 16 16 r⌝ ∗ ((partM).view.loc (V d (cV L) (jV L)) ↦{fullShare} f)) := by
  rw [← _root_.bind_pure (Scf.Loop.for _ _ _ _)]
  iintro Hpart
  sl_for (sumInv d L vx vi 16 f) $$ [Hpart]
  case region =>
    intro kk acc
    unfold sumInv
    iintro ⟨%hp, Hpart⟩
    have hk : kk.val < 16 := lt_of_lt_of_eq kk.isLt trips4
    sl_exec
    sl_step
    isplitr
    · ipureintro; exact hp.next hf hk (by omega) (congrFun (k0_off5_eq kk) 0) _
    iexact Hpart
  · unfold sumInv
    isplitr
    · ipureintro; exact sumsTo_zero _ _ _ _ hv
    iexact Hpart
  iintro %p HI
  unfold sumInv
  rw [show Scf.trips k0_t4_loop.lb k0_t4_loop.ub k0_t4_loop.st = 16 from trips4]
  sl_step
  iexact HI

/-- How often that loop runs. -/
theorem trips5 : k0_t5_loop.trips = 16 := by decide +kernel
set_option maxHeartbeats 4000000 in
/-- The loop over the tiles for groups 32 to 47 of the reducing tile. -/
theorem sums5 (h3 : k0_cond3 L = 1#1) (v285 v287 : F .f32) (v304 : FVec F S16 .f32) (c c' : BitVec 32) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t5_loop (k0_t5_ok L h3) v (k0_t5_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v285 v287 v304 c c'))
          fun r => iprop(⌜SumsTo (vx d) (vi d) (L 1).val 32 16 r⌝ ∗ ((partM).view.loc (V d (cV L) (jV L)) ↦{fullShare} f)) := by
  rw [← _root_.bind_pure (Scf.Loop.for _ _ _ _)]
  iintro Hpart
  sl_for (sumInv d L vx vi 32 f) $$ [Hpart]
  case region =>
    intro kk acc
    unfold sumInv
    iintro ⟨%hp, Hpart⟩
    have hk : kk.val < 16 := lt_of_lt_of_eq kk.isLt trips5
    sl_exec
    sl_step
    isplitr
    · ipureintro; exact hp.next hf hk (by omega) (congrFun (k0_off6_eq kk) 0) _
    iexact Hpart
  · unfold sumInv
    isplitr
    · ipureintro; exact sumsTo_zero _ _ _ _ hv
    iexact Hpart
  iintro %p HI
  unfold sumInv
  rw [show Scf.trips k0_t5_loop.lb k0_t5_loop.ub k0_t5_loop.st = 16 from trips5]
  sl_step
  iexact HI

/-- How often that loop runs. -/
theorem trips6 : k0_t6_loop.trips = 16 := by decide +kernel
set_option maxHeartbeats 4000000 in
/-- The loop over the tiles for groups 48 to 63 of the reducing tile. -/
theorem sums6 (h3 : k0_cond3 L = 1#1) (v285 v287 : F .f32) (v304 : FVec F S16 .f32) (c c' : BitVec 32) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t6_loop (k0_t6_ok L h3) v (k0_t6_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v285 v287 v304 c c'))
          fun r => iprop(⌜SumsTo (vx d) (vi d) (L 1).val 48 16 r⌝ ∗ ((partM).view.loc (V d (cV L) (jV L)) ↦{fullShare} f)) := by
  rw [← _root_.bind_pure (Scf.Loop.for _ _ _ _)]
  iintro Hpart
  sl_for (sumInv d L vx vi 48 f) $$ [Hpart]
  case region =>
    intro kk acc
    unfold sumInv
    iintro ⟨%hp, Hpart⟩
    have hk : kk.val < 16 := lt_of_lt_of_eq kk.isLt trips6
    sl_exec
    sl_step
    isplitr
    · ipureintro; exact hp.next hf hk (by omega) (congrFun (k0_off7_eq kk) 0) _
    iexact Hpart
  · unfold sumInv
    isplitr
    · ipureintro; exact sumsTo_zero _ _ _ _ hv
    iexact Hpart
  iintro %p HI
  unfold sumInv
  rw [show Scf.trips k0_t6_loop.lb k0_t6_loop.ub k0_t6_loop.st = 16 from trips6]
  sl_step
  iexact HI

/-- How often that loop runs. -/
theorem trips7 : k0_t7_loop.trips = 16 := by decide +kernel
set_option maxHeartbeats 4000000 in
/-- The loop over the tiles for groups 64 to 79 of the reducing tile. -/
theorem sums7 (h3 : k0_cond3 L = 1#1) (v285 v287 : F .f32) (v304 : FVec F S16 .f32) (c c' : BitVec 32) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t7_loop (k0_t7_ok L h3) v (k0_t7_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v285 v287 v304 c c'))
          fun r => iprop(⌜SumsTo (vx d) (vi d) (L 1).val 64 16 r⌝ ∗ ((partM).view.loc (V d (cV L) (jV L)) ↦{fullShare} f)) := by
  rw [← _root_.bind_pure (Scf.Loop.for _ _ _ _)]
  iintro Hpart
  sl_for (sumInv d L vx vi 64 f) $$ [Hpart]
  case region =>
    intro kk acc
    unfold sumInv
    iintro ⟨%hp, Hpart⟩
    have hk : kk.val < 16 := lt_of_lt_of_eq kk.isLt trips7
    sl_exec
    sl_step
    isplitr
    · ipureintro; exact hp.next hf hk (by omega) (congrFun (k0_off8_eq kk) 0) _
    iexact Hpart
  · unfold sumInv
    isplitr
    · ipureintro; exact sumsTo_zero _ _ _ _ hv
    iexact Hpart
  iintro %p HI
  unfold sumInv
  rw [show Scf.trips k0_t7_loop.lb k0_t7_loop.ub k0_t7_loop.st = 16 from trips7]
  sl_step
  iexact HI

/-- How often that loop runs. -/
theorem trips8 : k0_t8_loop.trips = 16 := by decide +kernel
set_option maxHeartbeats 4000000 in
/-- The loop over the tiles for groups 80 to 95 of the reducing tile. -/
theorem sums8 (h3 : k0_cond3 L = 1#1) (v285 v287 : F .f32) (v304 : FVec F S16 .f32) (c c' : BitVec 32) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t8_loop (k0_t8_ok L h3) v (k0_t8_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v285 v287 v304 c c'))
          fun r => iprop(⌜SumsTo (vx d) (vi d) (L 1).val 80 16 r⌝ ∗ ((partM).view.loc (V d (cV L) (jV L)) ↦{fullShare} f)) := by
  rw [← _root_.bind_pure (Scf.Loop.for _ _ _ _)]
  iintro Hpart
  sl_for (sumInv d L vx vi 80 f) $$ [Hpart]
  case region =>
    intro kk acc
    unfold sumInv
    iintro ⟨%hp, Hpart⟩
    have hk : kk.val < 16 := lt_of_lt_of_eq kk.isLt trips8
    sl_exec
    sl_step
    isplitr
    · ipureintro; exact hp.next hf hk (by omega) (congrFun (k0_off9_eq kk) 0) _
    iexact Hpart
  · unfold sumInv
    isplitr
    · ipureintro; exact sumsTo_zero _ _ _ _ hv
    iexact Hpart
  iintro %p HI
  unfold sumInv
  rw [show Scf.trips k0_t8_loop.lb k0_t8_loop.ub k0_t8_loop.st = 16 from trips8]
  sl_step
  iexact HI

/-- How often that loop runs. -/
theorem trips9 : k0_t9_loop.trips = 16 := by decide +kernel
set_option maxHeartbeats 4000000 in
/-- The loop over the tiles for groups 96 to 111 of the reducing tile. -/
theorem sums9 (h3 : k0_cond3 L = 1#1) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t9_loop (k0_t9_ok L h3) v (k0_t9_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3))
          fun r => iprop(⌜SumsTo (vx d) (vi d) (L 1).val 96 16 r⌝ ∗ ((partM).view.loc (V d (cV L) (jV L)) ↦{fullShare} f)) := by
  rw [← _root_.bind_pure (Scf.Loop.for _ _ _ _)]
  iintro Hpart
  sl_for (sumInv d L vx vi 96 f) $$ [Hpart]
  case region =>
    intro kk acc
    unfold sumInv
    iintro ⟨%hp, Hpart⟩
    have hk : kk.val < 16 := lt_of_lt_of_eq kk.isLt trips9
    sl_exec
    sl_step
    isplitr
    · ipureintro; exact hp.next hf hk (by omega) (congrFun (k0_off10_eq kk) 0) _
    iexact Hpart
  · unfold sumInv
    isplitr
    · ipureintro; exact sumsTo_zero _ _ _ _ hv
    iexact Hpart
  iintro %p HI
  unfold sumInv
  rw [show Scf.trips k0_t9_loop.lb k0_t9_loop.ub k0_t9_loop.st = 16 from trips9]
  sl_step
  iexact HI

/-- How often that loop runs. -/
theorem trips10 : k0_t10_loop.trips = 16 := by decide +kernel
set_option maxHeartbeats 4000000 in
/-- The loop over the tiles for groups 112 to 127 of the reducing tile. -/
theorem sums10 (h3 : k0_cond3 L = 1#1) {f : Vec F S2048 .f32} (hf : PartTo (vx d) (vi d) (L 1).val 16 f) {v : FVec F S16 .f32} (hv : ∀ x, v x = zeroF) :
    iprop(((partM).view.loc (V d (cV L) (jV L)) ↦{fullShare} f) : sProp 𝕄)
      ⊢ wp frame (wpE (defs₀ (F := F)) 𝒱₀ (V d (cV L) (jV L)) none) Set.univ (Scf.Loop.for k0_t10_loop (k0_t10_ok L h3) v (k0_t10_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3))
          fun r => iprop(⌜SumsTo (vx d) (vi d) (L 1).val 112 16 r⌝ ∗ ((partM).view.loc (V d (cV L) (jV L)) ↦{fullShare} f)) := by
  rw [← _root_.bind_pure (Scf.Loop.for _ _ _ _)]
  iintro Hpart
  sl_for (sumInv d L vx vi 112 f) $$ [Hpart]
  case region =>
    intro kk acc
    unfold sumInv
    iintro ⟨%hp, Hpart⟩
    have hk : kk.val < 16 := lt_of_lt_of_eq kk.isLt trips10
    sl_exec
    sl_step
    isplitr
    · ipureintro; exact hp.next hf hk (by omega) (congrFun (k0_off11_eq kk) 0) _
    iexact Hpart
  · unfold sumInv
    isplitr
    · ipureintro; exact sumsTo_zero _ _ _ _ hv
    iexact Hpart
  iintro %p HI
  unfold sumInv
  rw [show Scf.trips k0_t10_loop.lb k0_t10_loop.ub k0_t10_loop.st = 16 from trips10]
  sl_step
  iexact HI

end Loops

end Cert.Proof.Sums

end
-- ==== Proof.Collect.lean ====
/-
  The eight vectors of a reducing tile's piece of the result.
-/
module

public import proofs.«01_k».proof.Proof.Sums

@[expose] public section

noncomputable section

namespace Cert.Proof.Collect

open Cert.KernelIdeal Cert.KernelIdeal.Gen
open Cert.Proof.Vals Cert.Proof.Setup Cert.Proof.Scatter Cert.Proof.Fill Cert.Proof.Sums

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (d : Dev nD) (L : grid0.Coords)

section Pieces

/-- The first fifteen tiles take the first branch. -/
theorem first_iff : ∀ L : grid0.Coords, k0_cond1 L = 1#1 ↔ (L 1).val < 15 := by decide +kernel
/-- The last tile takes the second. -/
theorem last_iff : ∀ L : grid0.Coords, k0_cond2 L = 1#1 ↔ (L 1).val = 15 := by decide +kernel
/-- The first eight tiles reduce. -/
theorem red_iff : ∀ L : grid0.Coords, k0_cond3 L = 1#1 ↔ (L 1).val < 8 := by decide +kernel

/-- A reducing tile is one of the first eight. -/
theorem red_lt (h3 : k0_cond3 L = 1#1) : (L 1).val < 8 := (red_iff L).mp h3

omit [FloatOps F] in
/-- The words of tile `r`'s table that reducing tile `L 1` reads, as a piece of the shared memory. -/
theorem piece_set (r : Fin 16) (h3 : k0_cond3 L = 1#1) :
    (Rect.unit (s := S16384) (k0_off3 L (BitVec.ofNat 32 (1024 * r.val))) S128.size (k0_off3_inb L h3 r)).set = pieceSet r.val (L 1).val := by
  have hj : (L 1).val < 16 := (L 1).isLt
  have hr := r.isLt
  have ho : k0_off3 L (BitVec.ofNat 32 (1024 * r.val)) 0 = 1024 * r.val + 128 * (L 1).val := congrFun (k0_off3_eq L r) 0
  have hb : k0_off3 L (BitVec.ofNat 32 (1024 * r.val)) 0 + 128 ≤ 16384 := k0_off3_inb L h3 r 0
  have h8 : (L 1).val < 8 := red_lt L h3
  ext j
  rw [Rect.mem_set_unit, Finset.mem_filter, Finset.mem_filter]
  show (∀ a, k0_off3 L (BitVec.ofNat 32 (1024 * r.val)) a ≤ (j a).val ∧ (j a).val < k0_off3 L (BitVec.ofNat 32 (1024 * r.val)) a + S128.size a) ↔ (j ∈ Finset.univ ∧ (j 0).val % 1024 / 128 = (L 1).val) ∧ (j 0).val / 1024 = r.val
  constructor
  · intro H
    have H0 := H 0
    rw [ho] at H0
    have : (j 0).val < 1024 * r.val + 128 * (L 1).val + 128 := H0.2
    exact ⟨⟨Finset.mem_univ _, by omega⟩, by omega⟩
  · rintro ⟨⟨-, h1⟩, h2⟩ a
    obtain rfl := Fin.eq_zero a
    rw [ho]
    show _ ∧ (j 0).val < 1024 * r.val + 128 * (L 1).val + 128
    omega

/-- What a copy of the piece carries. -/
theorem piece_at (xs : Vec F S100000 .f32) (ids : Vec F S100000 EltTy.i32) (r : Fin 16) (h3 : k0_cond3 L = 1#1)
    (x : (Rect.unit (s := S16384) (k0_off3 L (BitVec.ofNat 32 (1024 * r.val))) S128.size (k0_off3_inb L h3 r)).shape.Idx) :
    tables xs ids ((Rect.unit (s := S16384) (k0_off3 L (BitVec.ofNat 32 (1024 * r.val))) S128.size (k0_off3_inb L h3 r)).emb x)
      = table xs ids r.val (rounds r.val) (spot 1023 (128 * (L 1).val + (x 0).val)) := by
  have hx : (x 0).val < 128 := (x 0).isLt
  have h8 : (L 1).val < 8 := red_lt L h3
  refine (congrArg (tables xs ids) (rect_at (n := 16383) _ (congrFun (k0_off3_eq L r) 0) x)).trans ?_
  show tables xs ids (spot 16383 (1024 * r.val + 128 * (L 1).val + (x 0).val)) = _
  rw [Nat.add_assoc]
  exact tables_at xs ids r.isLt (by omega)

omit [FloatOps F] in
/-- The reducing tile's piece of the result. -/
theorem out_set (h3 : k0_cond3 L = 1#1) : (Rect.unit (s := S1024) (k0_off12 L) S128.size (k0_off12_inb L h3)).set = groupSet (L 1).val := by
  have ho : k0_off12 L 0 = 128 * (L 1).val := congrFun (k0_off12_eq L) 0
  ext j
  rw [Rect.mem_set_unit, Finset.mem_filter]
  show (∀ a, k0_off12 L a ≤ (j a).val ∧ (j a).val < k0_off12 L a + S128.size a) ↔ j ∈ Finset.univ ∧ (j 0).val / 128 = (L 1).val
  constructor
  · intro H
    have H0 := H 0
    rw [ho] at H0
    have : (j 0).val < 128 * (L 1).val + 128 := H0.2
    exact ⟨Finset.mem_univ _, by omega⟩
  · rintro ⟨-, h2⟩ a
    obtain rfl := Fin.eq_zero a
    rw [ho]
    show _ ∧ (j 0).val < 128 * (L 1).val + 128
    omega

end Pieces

section Stage

/-- One stage inside a part, before the rest of the part and what follows the part. -/
theorem andThen₂ {α β γ : Type} {thr : Thread nD τ} {p : Prog (TpuEff nD τ sig (Elt F) Λ₀ thr.2) β} {k : β → Prog (TpuEff nD τ sig (Elt F) Λ₀ thr.2) γ}
    {k' : γ → Prog (TpuEff nD τ sig (Elt F) Λ₀ thr.2) α}
    {A : sProp 𝕄} {B : β → sProp 𝕄} {Q : α → sProp 𝕄} (h : A ⊢ wp frame (wpE (defs₀ (F := F)) 𝒱₀ thr none) Set.univ p B) :
    A ⊢ iprop((∀ v, B v -∗ wp frame (wpE (defs₀ (F := F)) 𝒱₀ thr none) Set.univ (k v >>= k') Q)
      -∗ wp frame (wpE (defs₀ (F := F)) 𝒱₀ thr none) Set.univ ((p >>= k) >>= k') Q) := by
  rw [LawfulMonad.bind_assoc]
  exact andThen h

variable (vx : Dev nD → Vec F S100000 .f32) (vi : Dev nD → Vec F S100000 EltTy.i32) (vw vb : Dev nD → Vec F S1 .f32)

/-- What a reducing tile ends with: the words it read, its piece of the result filled in, its scratch arrays. -/
def Reduced (h3 : k0_cond3 L = 1#1) (O : CellTallies nD τ sig (HIx 1)) (W : Waits sig (HIx 1)) (fw : Vec F S16 .f32) : sProp 𝕄 :=
  iprop((((shM).slice (Rect.unit (s := S16384) (k0_off3 L 0#32) S128.size (k0_off3_inb L h3 0)) (fun _ => rfl)).view.loc (V d (cV L) (jV L)) ↦[((shM).slice (Rect.unit (s := S16384) (k0_off3 L 0#32) S128.size (k0_off3_inb L h3 0)) (fun _ => rfl)).view.set]{fullShare} tables (vx d) (vi d))
      ∗ (((shM).slice (Rect.unit (s := S16384) (k0_off3 L 1024#32) S128.size (k0_off3_inb L h3 1)) (fun _ => rfl)).view.loc (V d (cV L) (jV L)) ↦[((shM).slice (Rect.unit (s := S16384) (k0_off3 L 1024#32) S128.size (k0_off3_inb L h3 1)) (fun _ => rfl)).view.set]{fullShare} tables (vx d) (vi d))
      ∗ (((shM).slice (Rect.unit (s := S16384) (k0_off3 L 2048#32) S128.size (k0_off3_inb L h3 2)) (fun _ => rfl)).view.loc (V d (cV L) (jV L)) ↦[((shM).slice (Rect.unit (s := S16384) (k0_off3 L 2048#32) S128.size (k0_off3_inb L h3 2)) (fun _ => rfl)).view.set]{fullShare} tables (vx d) (vi d))
      ∗ (((shM).slice (Rect.unit (s := S16384) (k0_off3 L 3072#32) S128.size (k0_off3_inb L h3 3)) (fun _ => rfl)).view.loc (V d (cV L) (jV L)) ↦[((shM).slice (Rect.unit (s := S16384) (k0_off3 L 3072#32) S128.size (k0_off3_inb L h3 3)) (fun _ => rfl)).view.set]{fullShare} tables (vx d) (vi d))
      ∗ (((shM).slice (Rect.unit (s := S16384) (k0_off3 L 4096#32) S128.size (k0_off3_inb L h3 4)) (fun _ => rfl)).view.loc (V d (cV L) (jV L)) ↦[((shM).slice (Rect.unit (s := S16384) (k0_off3 L 4096#32) S128.size (k0_off3_inb L h3 4)) (fun _ => rfl)).view.set]{fullShare} tables (vx d) (vi d))
      ∗ (((shM).slice (Rect.unit (s := S16384) (k0_off3 L 5120#32) S128.size (k0_off3_inb L h3 5)) (fun _ => rfl)).view.loc (V d (cV L) (jV L)) ↦[((shM).slice (Rect.unit (s := S16384) (k0_off3 L 5120#32) S128.size (k0_off3_inb L h3 5)) (fun _ => rfl)).view.set]{fullShare} tables (vx d) (vi d))
      ∗ (((shM).slice (Rect.unit (s := S16384) (k0_off3 L 6144#32) S128.size (k0_off3_inb L h3 6)) (fun _ => rfl)).view.loc (V d (cV L) (jV L)) ↦[((shM).slice (Rect.unit (s := S16384) (k0_off3 L 6144#32) S128.size (k0_off3_inb L h3 6)) (fun _ => rfl)).view.set]{fullShare} tables (vx d) (vi d))
      ∗ (((shM).slice (Rect.unit (s := S16384) (k0_off3 L 7168#32) S128.size (k0_off3_inb L h3 7)) (fun _ => rfl)).view.loc (V d (cV L) (jV L)) ↦[((shM).slice (Rect.unit (s := S16384) (k0_off3 L 7168#32) S128.size (k0_off3_inb L h3 7)) (fun _ => rfl)).view.set]{fullShare} tables (vx d) (vi d))
      ∗ (((shM).slice (Rect.unit (s := S16384) (k0_off3 L 8192#32) S128.size (k0_off3_inb L h3 8)) (fun _ => rfl)).view.loc (V d (cV L) (jV L)) ↦[((shM).slice (Rect.unit (s := S16384) (k0_off3 L 8192#32) S128.size (k0_off3_inb L h3 8)) (fun _ => rfl)).view.set]{fullShare} tables (vx d) (vi d))
      ∗ (((shM).slice (Rect.unit (s := S16384) (k0_off3 L 9216#32) S128.size (k0_off3_inb L h3 9)) (fun _ => rfl)).view.loc (V d (cV L) (jV L)) ↦[((shM).slice (Rect.unit (s := S16384) (k0_off3 L 9216#32) S128.size (k0_off3_inb L h3 9)) (fun _ => rfl)).view.set]{fullShare} tables (vx d) (vi d))
      ∗ (((shM).slice (Rect.unit (s := S16384) (k0_off3 L 10240#32) S128.size (k0_off3_inb L h3 10)) (fun _ => rfl)).view.loc (V d (cV L) (jV L)) ↦[((shM).slice (Rect.unit (s := S16384) (k0_off3 L 10240#32) S128.size (k0_off3_inb L h3 10)) (fun _ => rfl)).view.set]{fullShare} tables (vx d) (vi d))
      ∗ (((shM).slice (Rect.unit (s := S16384) (k0_off3 L 11264#32) S128.size (k0_off3_inb L h3 11)) (fun _ => rfl)).view.loc (V d (cV L) (jV L)) ↦[((shM).slice (Rect.unit (s := S16384) (k0_off3 L 11264#32) S128.size (k0_off3_inb L h3 11)) (fun _ => rfl)).view.set]{fullShare} tables (vx d) (vi d))
      ∗ (((shM).slice (Rect.unit (s := S16384) (k0_off3 L 12288#32) S128.size (k0_off3_inb L h3 12)) (fun _ => rfl)).view.loc (V d (cV L) (jV L)) ↦[((shM).slice (Rect.unit (s := S16384) (k0_off3 L 12288#32) S128.size (k0_off3_inb L h3 12)) (fun _ => rfl)).view.set]{fullShare} tables (vx d) (vi d))
      ∗ (((shM).slice (Rect.unit (s := S16384) (k0_off3 L 13312#32) S128.size (k0_off3_inb L h3 13)) (fun _ => rfl)).view.loc (V d (cV L) (jV L)) ↦[((shM).slice (Rect.unit (s := S16384) (k0_off3 L 13312#32) S128.size (k0_off3_inb L h3 13)) (fun _ => rfl)).view.set]{fullShare} tables (vx d) (vi d))
      ∗ (((shM).slice (Rect.unit (s := S16384) (k0_off3 L 14336#32) S128.size (k0_off3_inb L h3 14)) (fun _ => rfl)).view.loc (V d (cV L) (jV L)) ↦[((shM).slice (Rect.unit (s := S16384) (k0_off3 L 14336#32) S128.size (k0_off3_inb L h3 14)) (fun _ => rfl)).view.set]{fullShare} tables (vx d) (vi d))
      ∗ (((shM).slice (Rect.unit (s := S16384) (k0_off3 L 15360#32) S128.size (k0_off3_inb L h3 15)) (fun _ => rfl)).view.loc (V d (cV L) (jV L)) ↦[((shM).slice (Rect.unit (s := S16384) (k0_off3 L 15360#32) S128.size (k0_off3_inb L h3 15)) (fun _ => rfl)).view.set]{fullShare} tables (vx d) (vi d))
      ∗ (((oM).slice (Rect.unit (s := S1024) (k0_off12 L) S128.size (k0_off12_inb L h3)) (fun _ => rfl)).view.loc (V d (cV L) (jV L)) ↦[((oM).slice (Rect.unit (s := S1024) (k0_off12 L) S128.size (k0_off12_inb L h3)) (fun _ => rfl)).view.set]{fullShare} result (vx d) (vi d) (vw d) (vb d))
      ∗ (∃ f : Vec F S2048 .f32, ((partM).view.loc (V d (cV L) (jV L)) ↦{fullShare} f)) ∗ (∃ f : Vec F S128 .f32, ((outM).view.loc (V d (cV L) (jV L)) ↦{fullShare} f)) ∗ ((wbM).view.loc (V d (cV L) (jV L)) ↦{fullShare} fw)
      ∗ semVal ((V d (cV L) (jV L)), .dma cc0_scratch11.sem) 0 ∗ semVal ((V d (cV L) (jV L)), .dma cc0_scoped1.sem) 0
      ∗ ∃ W', ⌜∀ p ∈ W', p ∈ W ∨ p.2 = none⌝ ∗ owes (V d (cV L) (jV L)) O W' : sProp 𝕄)

set_option maxHeartbeats 40000000 in
/-- A reducing tile after the barrier: its words of the sixteen tables collected, summed, scaled and shifted, and copied out. -/
theorem reduce [∀ e, Nonempty (Elt F e)] (h3 : k0_cond3 L = 1#1)
    (O : CellTallies nD τ sig (HIx 1)) (W : Waits sig (HIx 1)) (a1 : BitVec 32)
    (_plan : Transfers.BatchOf (V d (cV L) (jV L)) (SemLoc.dma (sig := sig) cc0_scratch11.sem) 16 (windows := true))
    (fp : Vec F S2048 .f32) (fo : Vec F S128 .f32) (fw : Vec F S16 .f32) (hfw : WB (vw d) (vb d) fw) (fr : Vec F S1024 .f32) :
    iprop(Transfers.MayWaits (V d (cV L) (jV L)) (default : HIx 1) O
      ∗ (((shM).slice (Rect.unit (s := S16384) (k0_off3 L 0#32) S128.size (k0_off3_inb L h3 0)) (fun _ => rfl)).view.loc (V d (cV L) (jV L)) ↦[((shM).slice (Rect.unit (s := S16384) (k0_off3 L 0#32) S128.size (k0_off3_inb L h3 0)) (fun _ => rfl)).view.set]{fullShare} tables (vx d) (vi d))
      ∗ (((shM).slice (Rect.unit (s := S16384) (k0_off3 L 1024#32) S128.size (k0_off3_inb L h3 1)) (fun _ => rfl)).view.loc (V d (cV L) (jV L)) ↦[((shM).slice (Rect.unit (s := S16384) (k0_off3 L 1024#32) S128.size (k0_off3_inb L h3 1)) (fun _ => rfl)).view.set]{fullShare} tables (vx d) (vi d))
      ∗ (((shM).slice (Rect.unit (s := S16384) (k0_off3 L 2048#32) S128.size (k0_off3_inb L h3 2)) (fun _ => rfl)).view.loc (V d (cV L) (jV L)) ↦[((shM).slice (Rect.unit (s := S16384) (k0_off3 L 2048#32) S128.size (k0_off3_inb L h3 2)) (fun _ => rfl)).view.set]{fullShare} tables (vx d) (vi d))
      ∗ (((shM).slice (Rect.unit (s := S16384) (k0_off3 L 3072#32) S128.size (k0_off3_inb L h3 3)) (fun _ => rfl)).view.loc (V d (cV L) (jV L)) ↦[((shM).slice (Rect.unit (s := S16384) (k0_off3 L 3072#32) S128.size (k0_off3_inb L h3 3)) (fun _ => rfl)).view.set]{fullShare} tables (vx d) (vi d))
      ∗ (((shM).slice (Rect.unit (s := S16384) (k0_off3 L 4096#32) S128.size (k0_off3_inb L h3 4)) (fun _ => rfl)).view.loc (V d (cV L) (jV L)) ↦[((shM).slice (Rect.unit (s := S16384) (k0_off3 L 4096#32) S128.size (k0_off3_inb L h3 4)) (fun _ => rfl)).view.set]{fullShare} tables (vx d) (vi d))
      ∗ (((shM).slice (Rect.unit (s := S16384) (k0_off3 L 5120#32) S128.size (k0_off3_inb L h3 5)) (fun _ => rfl)).view.loc (V d (cV L) (jV L)) ↦[((shM).slice (Rect.unit (s := S16384) (k0_off3 L 5120#32) S128.size (k0_off3_inb L h3 5)) (fun _ => rfl)).view.set]{fullShare} tables (vx d) (vi d))
      ∗ (((shM).slice (Rect.unit (s := S16384) (k0_off3 L 6144#32) S128.size (k0_off3_inb L h3 6)) (fun _ => rfl)).view.loc (V d (cV L) (jV L)) ↦[((shM).slice (Rect.unit (s := S16384) (k0_off3 L 6144#32) S128.size (k0_off3_inb L h3 6)) (fun _ => rfl)).view.set]{fullShare} tables (vx d) (vi d))
      ∗ (((shM).slice (Rect.unit (s := S16384) (k0_off3 L 7168#32) S128.size (k0_off3_inb L h3 7)) (fun _ => rfl)).view.loc (V d (cV L) (jV L)) ↦[((shM).slice (Rect.unit (s := S16384) (k0_off3 L 7168#32) S128.size (k0_off3_inb L h3 7)) (fun _ => rfl)).view.set]{fullShare} tables (vx d) (vi d))
      ∗ (((shM).slice (Rect.unit (s := S16384) (k0_off3 L 8192#32) S128.size (k0_off3_inb L h3 8)) (fun _ => rfl)).view.loc (V d (cV L) (jV L)) ↦[((shM).slice (Rect.unit (s := S16384) (k0_off3 L 8192#32) S128.size (k0_off3_inb L h3 8)) (fun _ => rfl)).view.set]{fullShare} tables (vx d) (vi d))
      ∗ (((shM).slice (Rect.unit (s := S16384) (k0_off3 L 9216#32) S128.size (k0_off3_inb L h3 9)) (fun _ => rfl)).view.loc (V d (cV L) (jV L)) ↦[((shM).slice (Rect.unit (s := S16384) (k0_off3 L 9216#32) S128.size (k0_off3_inb L h3 9)) (fun _ => rfl)).view.set]{fullShare} tables (vx d) (vi d))
      ∗ (((shM).slice (Rect.unit (s := S16384) (k0_off3 L 10240#32) S128.size (k0_off3_inb L h3 10)) (fun _ => rfl)).view.loc (V d (cV L) (jV L)) ↦[((shM).slice (Rect.unit (s := S16384) (k0_off3 L 10240#32) S128.size (k0_off3_inb L h3 10)) (fun _ => rfl)).view.set]{fullShare} tables (vx d) (vi d))
      ∗ (((shM).slice (Rect.unit (s := S16384) (k0_off3 L 11264#32) S128.size (k0_off3_inb L h3 11)) (fun _ => rfl)).view.loc (V d (cV L) (jV L)) ↦[((shM).slice (Rect.unit (s := S16384) (k0_off3 L 11264#32) S128.size (k0_off3_inb L h3 11)) (fun _ => rfl)).view.set]{fullShare} tables (vx d) (vi d))
      ∗ (((shM).slice (Rect.unit (s := S16384) (k0_off3 L 12288#32) S128.size (k0_off3_inb L h3 12)) (fun _ => rfl)).view.loc (V d (cV L) (jV L)) ↦[((shM).slice (Rect.unit (s := S16384) (k0_off3 L 12288#32) S128.size (k0_off3_inb L h3 12)) (fun _ => rfl)).view.set]{fullShare} tables (vx d) (vi d))
      ∗ (((shM).slice (Rect.unit (s := S16384) (k0_off3 L 13312#32) S128.size (k0_off3_inb L h3 13)) (fun _ => rfl)).view.loc (V d (cV L) (jV L)) ↦[((shM).slice (Rect.unit (s := S16384) (k0_off3 L 13312#32) S128.size (k0_off3_inb L h3 13)) (fun _ => rfl)).view.set]{fullShare} tables (vx d) (vi d))
      ∗ (((shM).slice (Rect.unit (s := S16384) (k0_off3 L 14336#32) S128.size (k0_off3_inb L h3 14)) (fun _ => rfl)).view.loc (V d (cV L) (jV L)) ↦[((shM).slice (Rect.unit (s := S16384) (k0_off3 L 14336#32) S128.size (k0_off3_inb L h3 14)) (fun _ => rfl)).view.set]{fullShare} tables (vx d) (vi d))
      ∗ (((shM).slice (Rect.unit (s := S16384) (k0_off3 L 15360#32) S128.size (k0_off3_inb L h3 15)) (fun _ => rfl)).view.loc (V d (cV L) (jV L)) ↦[((shM).slice (Rect.unit (s := S16384) (k0_off3 L 15360#32) S128.size (k0_off3_inb L h3 15)) (fun _ => rfl)).view.set]{fullShare} tables (vx d) (vi d))
      ∗ (((oM).slice (Rect.unit (s := S1024) (k0_off12 L) S128.size (k0_off12_inb L h3)) (fun _ => rfl)).view.loc (V d (cV L) (jV L)) ↦[((oM).slice (Rect.unit (s := S1024) (k0_off12 L) S128.size (k0_off12_inb L h3)) (fun _ => rfl)).view.set]{fullShare} fr)
      ∗ ((partM).view.loc (V d (cV L) (jV L)) ↦{fullShare} fp) ∗ ((outM).view.loc (V d (cV L) (jV L)) ↦{fullShare} fo) ∗ ((wbM).view.loc (V d (cV L) (jV L)) ↦{fullShare} fw)
      ∗ semVal ((V d (cV L) (jV L)), .dma cc0_scratch11.sem) 0 ∗ semVal ((V d (cV L) (jV L)), .dma cc0_scoped1.sem) 0
      ∗ owes (V d (cV L) (jV L)) O W : sProp 𝕄)
      ⊢ wp frame (wpE (defs₀ (F := F)) 𝒱₀ (V d (cV L) (jV L)) none) Set.univ (do
            let v138 : BitVec 32 ← k0_part3 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 a1 h3
            let c : BitVec 32 ← k0_part4 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v138
            k0_part5 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v138 c
            k0_part6 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3
            let ⟨v285, v287, v304, c0, c1⟩ : Σ' (v285 : F .f32) (v287 : F .f32) (v304 : FVec F S16 .f32) (c0_i32_132 : BitVec 32), BitVec 32 ← k0_part7 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3
            let ⟨v336, _, _⟩ : Σ' (v336 : FVec F S16 .f32) (c0_i32_156 : BitVec 32), BitVec 32 ← k0_part8 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v285 v287 v304 c0 c1
            let v338 : FVec F S16 .f32 ← Scf.Loop.for k0_t9_loop (k0_t9_ok L h3) v336 (k0_t9_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3)
            let v343 : Vec F S16 .f32 ← Prog.lift (.load outM (Rect.unit (s := S128) ![96] S16.size inb_S128_S16_96).toLoadRect (View.loadsAt_vmem h_S16))
            Prog.lift (.store outM (Rect.unit (s := S128) ![96] S16.size inb_S128_S16_96) (k0_pay7 v285 v287 v338) Finset.univ (View.stores_vmem_bits_univ h_S16 rfl) (.inl rfl))
            let v346 : FVec F S16 .f32 ← Scf.Loop.for k0_t10_loop (k0_t10_ok L h3) (k0_pay8 (F := F)) (k0_t10_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3)
            let v351 : Vec F S16 .f32 ← Prog.lift (.load outM (Rect.unit (s := S128) ![112] S16.size inb_S128_S16_112).toLoadRect (View.loadsAt_vmem h_S16))
            Prog.lift (.store outM (Rect.unit (s := S128) ![112] S16.size inb_S128_S16_112) (k0_pay10 v285 v287 v346) Finset.univ (View.stores_vmem_bits_univ h_S16 rfl) (.inl rfl))
            Prog.lift (.enqueueDma outM (.here ((oM).slice (Rect.unit (s := S1024) (k0_off12 L) S128.size (k0_off12_inb L h3)) (fun _ => rfl))) (.dma cc0_scoped1.sem) (Memref.isWhole_whole _).wordExact (View.wordExact_bits rfl) ⟨Or.inl rfl, trivial⟩)
            Prog.lift (.waitDma2 cc0_scoped1.sem outM ((oM).slice (Rect.unit (s := S1024) (k0_off12 L) S128.size (k0_off12_inb L h3)) (fun _ => rfl)) (Memref.isWhole_whole _).wordExact (View.wordExact_bits rfl))
            pure PUnit.unit)
          fun _ => Reduced d L vx vi vw vb h3 O W fw := by
  rw [k0_part3_eq_skeleton, k0_part4_eq_skeleton, k0_part5_eq_skeleton, k0_part6_eq_skeleton, k0_part7_eq_skeleton]
  unfold k0_part3_skel k0_part4_skel k0_part5_skel k0_part6_skel k0_part7_skel
  iintro ⟨#Hmw, Hp0, Hp1, Hp2, Hp3, Hp4, Hp5, Hp6, Hp7, Hp8, Hp9, Hp10, Hp11, Hp12, Hp13, Hp14, Hp15, Ho, Hpart, Hout, Hwb, Hs, Hs1, HO⟩
  sl_exec
  ihave Hpart' := (Entails.of_eq (rfl : (iprop(∃ f : Vec F S2048 .f32, ⌜PartTo (vx d) (vi d) (L 1).val 16 f⌝ ∗ ((partM).view.loc (V d (cV L) (jV L)) ↦{fullShare} f)) : sProp 𝕄) = _)) $$ [Hpart]
  · iexists _; isplitr; swap
    · iexact Hpart
    · ipureintro
      refine PartTo.step _ _ _ _ ?_ (n := 15) (by decide) rfl _ _ (fun x => piece_at L (vx d) (vi d) 15 h3 x)
      refine PartTo.step _ _ _ _ ?_ (n := 14) (by decide) rfl _ _ (fun x => piece_at L (vx d) (vi d) 14 h3 x)
      refine PartTo.step _ _ _ _ ?_ (n := 13) (by decide) rfl _ _ (fun x => piece_at L (vx d) (vi d) 13 h3 x)
      refine PartTo.step _ _ _ _ ?_ (n := 12) (by decide) rfl _ _ (fun x => piece_at L (vx d) (vi d) 12 h3 x)
      refine PartTo.step _ _ _ _ ?_ (n := 11) (by decide) rfl _ _ (fun x => piece_at L (vx d) (vi d) 11 h3 x)
      refine PartTo.step _ _ _ _ ?_ (n := 10) (by decide) rfl _ _ (fun x => piece_at L (vx d) (vi d) 10 h3 x)
      refine PartTo.step _ _ _ _ ?_ (n := 9) (by decide) rfl _ _ (fun x => piece_at L (vx d) (vi d) 9 h3 x)
      refine PartTo.step _ _ _ _ ?_ (n := 8) (by decide) rfl _ _ (fun x => piece_at L (vx d) (vi d) 8 h3 x)
      refine PartTo.step _ _ _ _ ?_ (n := 7) (by decide) rfl _ _ (fun x => piece_at L (vx d) (vi d) 7 h3 x)
      refine PartTo.step _ _ _ _ ?_ (n := 6) (by decide) rfl _ _ (fun x => piece_at L (vx d) (vi d) 6 h3 x)
      refine PartTo.step _ _ _ _ ?_ (n := 5) (by decide) rfl _ _ (fun x => piece_at L (vx d) (vi d) 5 h3 x)
      refine PartTo.step _ _ _ _ ?_ (n := 4) (by decide) rfl _ _ (fun x => piece_at L (vx d) (vi d) 4 h3 x)
      refine PartTo.step _ _ _ _ ?_ (n := 3) (by decide) rfl _ _ (fun x => piece_at L (vx d) (vi d) 3 h3 x)
      refine PartTo.step _ _ _ _ ?_ (n := 2) (by decide) rfl _ _ (fun x => piece_at L (vx d) (vi d) 2 h3 x)
      refine PartTo.step _ _ _ _ ?_ (n := 1) (by decide) rfl _ _ (fun x => piece_at L (vx d) (vi d) 1 h3 x)
      refine PartTo.step _ _ _ _ ?_ (n := 0) (by decide) rfl _ _ (fun x => piece_at L (vx d) (vi d) 0 h3 x)
      exact partTo_zero _ _ _ _
  icases Hpart' with ⟨%gp, %hgp, Hpart⟩
  have hw0 := weight_at hfw inb_S16_S16_0
  have hb0 := bias_at hfw inb_S16_S16_0
  first | iapply (andThen₂ (sums3 d L vx vi h3 hgp (v := k0_pay16) (fun _ => rfl))) $$ [Hpart] | iapply (andThen (sums3 d L vx vi h3 hgp (v := k0_pay16) (fun _ => rfl))) $$ [Hpart]
  · iexact Hpart
  iintro %p3 ⟨%hs3, Hpart⟩
  sl_exec
  first | iapply (andThen₂ (sums4 d L vx vi h3 hgp (v := k0_pay19) (fun _ => rfl))) $$ [Hpart] | iapply (andThen (sums4 d L vx vi h3 hgp (v := k0_pay19) (fun _ => rfl))) $$ [Hpart]
  · iexact Hpart
  iintro %p4 ⟨%hs4, Hpart⟩
  sl_exec
  first | iapply (andThen₂ (sums5 d L vx vi h3 _ _ _ _ _ hgp (v := k0_pay22) (fun _ => rfl))) $$ [Hpart] | iapply (andThen (sums5 d L vx vi h3 _ _ _ _ _ hgp (v := k0_pay22) (fun _ => rfl))) $$ [Hpart]
  · iexact Hpart
  iintro %p5 ⟨%hs5, Hpart⟩
  sl_exec
  first | iapply (andThen₂ (sums6 d L vx vi h3 _ _ _ _ _ hgp (v := k0_pay25) (fun _ => rfl))) $$ [Hpart] | iapply (andThen (sums6 d L vx vi h3 _ _ _ _ _ hgp (v := k0_pay25) (fun _ => rfl))) $$ [Hpart]
  · iexact Hpart
  iintro %p6 ⟨%hs6, Hpart⟩
  sl_exec
  first | iapply (andThen₂ (sums7 d L vx vi h3 _ _ _ _ _ hgp (v := k0_pay28) (fun _ => rfl))) $$ [Hpart] | iapply (andThen (sums7 d L vx vi h3 _ _ _ _ _ hgp (v := k0_pay28) (fun _ => rfl))) $$ [Hpart]
  · iexact Hpart
  iintro %p7 ⟨%hs7, Hpart⟩
  sl_exec
  first | iapply (andThen₂ (sums8 d L vx vi h3 _ _ _ _ _ hgp (v := k0_pay31) (fun _ => rfl))) $$ [Hpart] | iapply (andThen (sums8 d L vx vi h3 _ _ _ _ _ hgp (v := k0_pay31) (fun _ => rfl))) $$ [Hpart]
  · iexact Hpart
  iintro %p8 ⟨%hs8, Hpart⟩
  sl_exec
  first | iapply (andThen₂ (sums9 d L vx vi h3 hgp (v := k0_pay34) (fun _ => rfl))) $$ [Hpart] | iapply (andThen (sums9 d L vx vi h3 hgp (v := k0_pay34) (fun _ => rfl))) $$ [Hpart]
  · iexact Hpart
  iintro %p9 ⟨%hs9, Hpart⟩
  sl_exec
  first | iapply (andThen₂ (sums10 d L vx vi h3 hgp (v := k0_pay8) (fun _ => rfl))) $$ [Hpart] | iapply (andThen (sums10 d L vx vi h3 hgp (v := k0_pay8) (fun _ => rfl))) $$ [Hpart]
  · iexact Hpart
  iintro %p10 ⟨%hs10, Hpart⟩
  sl_exec
  have hout : OutTo (vx d) (vi d) (vw d) (vb d) (L 1).val 128 ((outM).view.writes (Elt F) fo (reduce.sl.Hout_8 fw p3 p4 p5 p6 p7 p8 p9 p10)) := by
    refine OutTo.step _ _ ?_ (n := 112) (by decide) _ _ (finish hs10 hw0 hb0)
    refine OutTo.step _ _ ?_ (n := 96) (by decide) _ _ (finish hs9 hw0 hb0)
    refine OutTo.step _ _ ?_ (n := 80) (by decide) _ _ (finish hs8 hw0 hb0)
    refine OutTo.step _ _ ?_ (n := 64) (by decide) _ _ (finish hs7 hw0 hb0)
    refine OutTo.step _ _ ?_ (n := 48) (by decide) _ _ (finish hs6 hw0 hb0)
    refine OutTo.step _ _ ?_ (n := 32) (by decide) _ _ (finish hs5 hw0 hb0)
    refine OutTo.step _ _ ?_ (n := 16) (by decide) _ _ (finish hs4 hw0 hb0)
    refine OutTo.step _ _ ?_ (n := 0) (by decide) _ _ (finish hs3 hw0 hb0)
    exact outTo_zero _ _ _ _ _ _
  have hres : ∀ i ∈ ((oM).slice (Rect.unit (s := S1024) (k0_off12 L) S128.size (k0_off12_inb L h3)) (fun _ => rfl)).view.set,
      ((oM).slice (Rect.unit (s := S1024) (k0_off12 L) S128.size (k0_off12_inb L h3)) (fun _ => rfl)).view.writes (Elt F) fr
        [⟨Rect.whole _, reduce.sl.dma2_1 fo fw p3 p4 p5 p6 p7 p8 p9 p10⟩] i = result (vx d) (vi d) (vw d) (vb d) i := by
    intro i hi
    obtain ⟨y, -, rfl⟩ := Finset.mem_map.mp hi
    refine (View.read_writes_cons_hit_of_coords ((oM).slice (Rect.unit (s := S1024) (k0_off12 L) S128.size (k0_off12_inb L h3)) (fun _ => rfl)).view fr
      (Rect.whole _) _ [] y y (fun a => (by show _ = 0 + 1 * _; omega))).trans ?_
    have hy : (y 0).val < 128 := (y 0).isLt
    have hq := hout (y 0).val hy
    rw [spot_self (n := 127) y] at hq
    refine Eq.trans hq ?_
    exact congrArg (result (vx d) (vi d) (vw d) (vb d)) (rect_at (n := 1023) _ (congrFun (k0_off12_eq L) 0) y).symm
  sl_step
  unfold Reduced
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  isplitl [Hp13]; · iexact Hp13
  isplitl [Hp14]; · iexact Hp14
  isplitl [Hp15]; · iexact Hp15
  isplitl [Ho]; · iapply (Entails.of_eq (pointsTo_congr hres)) $$ Ho
  isplitl [Hpart]; · iexists _; iexact Hpart
  isplitl [Hout]; · iexists _; iexact Hout
  isplitl [Hwb]; · iexact Hwb
  isplitl [Hs]; · iexact Hs
  isplitl [Hs1]; · iexact Hs1
  iexists _; isplitr; swap
  · iexact HO
  ipureintro; intro p hp
  simp only [Finset.mem_insert] at hp
  rcases hp with hp | hp | hp | hp | hp | hp | hp | hp | hp | hp | hp | hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inl hp

end Stage

end Cert.Proof.Collect

end
-- ==== Proof.Zero.lean ====
/-
  Clearing the table: sixty-four stores of sixteen zeros.
-/
module

public import proofs.«01_k».proof.Proof.Scatter

@[expose] public section

noncomputable section

namespace Cert.Proof.Zero

open Cert.KernelIdeal Cert.KernelIdeal.Gen
open Cert.Proof.Vals Cert.Proof.Setup Cert.Proof.Scatter

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (d : Dev nD) (L : grid0.Coords)

section Zero

/-- The table's first `n` places hold the zero. -/
def ZeroTo (n : ℕ) (g : Vec F S1024 .f32) : Prop := ∀ j : S1024.Idx, (j 0).val < n → g j = zeroF

/-- A store of sixteen zeros after the first `n`. -/
theorem ZeroTo.step {n : ℕ} (f : Vec F S1024 .f32) (ps : List (View.Piece (Elt F) S1024 .f32))
    (h : ZeroTo n ((accM).view.writes (Elt F) f ps)) (inb : ∀ a, (![n] : Fin 1 → ℕ) a + S16.size a ≤ S1024.size a)
    (w : (Rect.unit (s := S1024) ![n] S16.size inb).shape.Idx → Elt F .f32) (hw : ∀ x, w x = zeroF) :
    ZeroTo (n + 16) ((accM).view.writes (Elt F) f (⟨Rect.unit (s := S1024) ![n] S16.size inb, w⟩ :: ps)) := by
  intro j hj
  by_cases hn : (j 0).val < n
  · refine Eq.trans ?_ (h j hn)
    exact View.read_writes_cons_miss_of_axis (v := (accM).view) (f := f) ⟨Rect.unit (s := S1024) ![n] S16.size inb, w⟩ ps j 0 n 16 rfl rfl rfl (.inl hn)
  · refine Eq.trans ?_ (hw (fun a => ⟨(j 0).val - n, by obtain rfl := Fin.eq_zero a; show _ < 16; omega⟩))
    refine View.read_writes_cons_hit_of_coords (accM).view f (Rect.unit (s := S1024) ![n] S16.size inb) w ps _ j ?_
    intro a
    obtain rfl := Fin.eq_zero a
    show (j 0).val = n + 1 * ((j 0).val - n)
    omega

end Zero

section Stage

set_option maxHeartbeats 4000000 in
/-- The stores of zeros to places 0 to 176 of the table. -/
theorem zero9 (f : Vec F S1024 .f32) (hf : ZeroTo 0 f) :
    iprop(((accM).view.loc (V d (cV L) (jV L)) ↦{fullShare} f) : sProp 𝕄)
      ⊢ wp frame (wpE (defs₀ (F := F)) 𝒱₀ (V d (cV L) (jV L)) none) Set.univ (k0_part9 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1)
          fun r => iprop(⌜∀ x, r.2 x = zeroF⌝ ∗ ∃ g : Vec F S1024 .f32, ⌜ZeroTo 176 g⌝ ∗ ((accM).view.loc (V d (cV L) (jV L)) ↦{fullShare} g) : sProp 𝕄) := by
  rw [k0_part9_eq_skeleton]; unfold k0_part9_skel
  iintro Hacc
  sl_exec
  sl_step
  isplitr
  · ipureintro; exact fun _ => rfl
  · iexists _; isplitr; swap
    · iexact Hacc
    · ipureintro
      · refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        exact hf

set_option maxHeartbeats 4000000 in
/-- The stores of zeros to places 176 to 368 of the table. -/
theorem zero10 (v : FVec F S16 .f32) (hv : ∀ x, v x = zeroF) (f : Vec F S1024 .f32) (hf : ZeroTo 176 f) :
    iprop(((accM).view.loc (V d (cV L) (jV L)) ↦{fullShare} f) : sProp 𝕄)
      ⊢ wp frame (wpE (defs₀ (F := F)) 𝒱₀ (V d (cV L) (jV L)) none) Set.univ (k0_part10 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 v)
          fun r => iprop(⌜∀ x, r x = zeroF⌝ ∗ ∃ g : Vec F S1024 .f32, ⌜ZeroTo 368 g⌝ ∗ ((accM).view.loc (V d (cV L) (jV L)) ↦{fullShare} g) : sProp 𝕄) := by
  rw [k0_part10_eq_skeleton]; unfold k0_part10_skel
  iintro Hacc
  sl_exec
  sl_step
  isplitr
  · ipureintro; exact fun _ => rfl
  · iexists _; isplitr; swap
    · iexact Hacc
    · ipureintro
      · refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (hv)
        exact hf

set_option maxHeartbeats 4000000 in
/-- The stores of zeros to places 368 to 560 of the table. -/
theorem zero11 (v : FVec F S16 .f32) (hv : ∀ x, v x = zeroF) (f : Vec F S1024 .f32) (hf : ZeroTo 368 f) :
    iprop(((accM).view.loc (V d (cV L) (jV L)) ↦{fullShare} f) : sProp 𝕄)
      ⊢ wp frame (wpE (defs₀ (F := F)) 𝒱₀ (V d (cV L) (jV L)) none) Set.univ (k0_part11 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 v)
          fun r => iprop(⌜∀ x, r x = zeroF⌝ ∗ ∃ g : Vec F S1024 .f32, ⌜ZeroTo 560 g⌝ ∗ ((accM).view.loc (V d (cV L) (jV L)) ↦{fullShare} g) : sProp 𝕄) := by
  rw [k0_part11_eq_skeleton]; unfold k0_part11_skel
  iintro Hacc
  sl_exec
  sl_step
  isplitr
  · ipureintro; exact fun _ => rfl
  · iexists _; isplitr; swap
    · iexact Hacc
    · ipureintro
      · refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (hv)
        exact hf

set_option maxHeartbeats 4000000 in
/-- The stores of zeros to places 560 to 752 of the table. -/
theorem zero12 (v : FVec F S16 .f32) (hv : ∀ x, v x = zeroF) (f : Vec F S1024 .f32) (hf : ZeroTo 560 f) :
    iprop(((accM).view.loc (V d (cV L) (jV L)) ↦{fullShare} f) : sProp 𝕄)
      ⊢ wp frame (wpE (defs₀ (F := F)) 𝒱₀ (V d (cV L) (jV L)) none) Set.univ (k0_part12 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 v)
          fun r => iprop(⌜∀ x, r x = zeroF⌝ ∗ ∃ g : Vec F S1024 .f32, ⌜ZeroTo 752 g⌝ ∗ ((accM).view.loc (V d (cV L) (jV L)) ↦{fullShare} g) : sProp 𝕄) := by
  rw [k0_part12_eq_skeleton]; unfold k0_part12_skel
  iintro Hacc
  sl_exec
  sl_step
  isplitr
  · ipureintro; exact fun _ => rfl
  · iexists _; isplitr; swap
    · iexact Hacc
    · ipureintro
      · refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (hv)
        exact hf

set_option maxHeartbeats 4000000 in
/-- The stores of zeros to places 752 to 944 of the table. -/
theorem zero13 (v : FVec F S16 .f32) (hv : ∀ x, v x = zeroF) (f : Vec F S1024 .f32) (hf : ZeroTo 752 f) :
    iprop(((accM).view.loc (V d (cV L) (jV L)) ↦{fullShare} f) : sProp 𝕄)
      ⊢ wp frame (wpE (defs₀ (F := F)) 𝒱₀ (V d (cV L) (jV L)) none) Set.univ (k0_part13 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 v)
          fun r => iprop(⌜∀ x, r x = zeroF⌝ ∗ ∃ g : Vec F S1024 .f32, ⌜ZeroTo 944 g⌝ ∗ ((accM).view.loc (V d (cV L) (jV L)) ↦{fullShare} g) : sProp 𝕄) := by
  rw [k0_part13_eq_skeleton]; unfold k0_part13_skel
  iintro Hacc
  sl_exec
  sl_step
  isplitr
  · ipureintro; exact fun _ => rfl
  · iexists _; isplitr; swap
    · iexact Hacc
    · ipureintro
      · refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (fun _ => rfl)
        refine ZeroTo.step _ _ ?_ _ _ (hv)
        exact hf

end Stage

end Cert.Proof.Zero

end
-- ==== Proof.Tail.lean ====
/-
  What follows the loop: the table goes to the shared memory, the barrier, and, on tiles 0 to 7, the reduction.
-/
module

public import proofs.«01_k».proof.Proof.Collect
public import proofs.«01_k».proof.Proof.Zero

@[expose] public section

noncomputable section

namespace Cert.Proof.Tail

open Cert.KernelIdeal Cert.KernelIdeal.Gen
open Cert.Proof.Vals Cert.Proof.Setup Cert.Proof.Scatter Cert.Proof.Zero Cert.Proof.Fill Cert.Proof.Sums Cert.Proof.Collect

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (d : Dev nD) (L : grid0.Coords)

section Hand
variable (vx : Dev nD → Vec F S100000 .f32) (vi : Dev nD → Vec F S100000 EltTy.i32)

/-- Sixteen resources, one after another. -/
theorem sixteen (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  rfl

/-- The tile's own words of the shared memory, filled in, are what it hands over at the barrier. -/
theorem pays_intro : (shLoc d (cV L) ↦[rowSet (L 1).val]{fullShare} shVal vx vi d (cV L))
    ⊢ (bigSep Finset.univ fun j : Fin (grid0.bound 1) => (bRd (F := F) vx vi).payload (bcell d (cV L) (j.castLE hsub0)) 0 (jV L).val : sProp 𝕄) := by
  refine Entails.of_eq ((pts_fibers (ℓ := shLoc d (cV L)) 16 (rowSet (L 1).val) wordCol (fun j _ => wordCol_lt j) fullShare _).trans ?_)
  refine bigSep_congr fun j _ => ?_
  show _ = bPay vx vi (bcell d (cV L) (j.castLE hsub0)) (jV L).val
  unfold bPay; dsimp only
  exact congrArg (fun S => (shLoc d (cV L) ↦[S]{fullShare} shVal vx vi d (cV L) : sProp 𝕄)) (pieceSet_eq _ _)

/-- What it is handed there are its words of every tile's table. -/
theorem pays_elim : (bigSep ((bRd (F := F) vx vi).duties (bcell d (cV L) (jV L)) 0 \ ∅) fun n => (bRd (F := F) vx vi).payload (bcell d (cV L) (jV L)) 0 n)
    ⊢ (bigSep Finset.univ fun r : Fin 16 => shLoc d (cV L) ↦[pieceSet r.val (L 1).val]{fullShare} shVal vx vi d (cV L) : sProp 𝕄) := by
  rw [Finset.sdiff_empty, bRd_duties₀, SparseCore.bigSep_image_of_injOn (fun a _ b _ e => Fin.val_injective e)]
  exact Entails.of_eq rfl

/-- Those words together. -/
theorem pieces_join : (bigSep Finset.univ fun r : Fin 16 => shLoc d (cV L) ↦[pieceSet r.val (L 1).val]{fullShare} shVal vx vi d (cV L) : sProp 𝕄)
    = (shLoc d (cV L) ↦[colSet (L 1).val]{fullShare} shVal vx vi d (cV L)) :=
  (pts_fibers (ℓ := shLoc d (cV L)) 16 (colSet (L 1).val) wordRow (fun j _ => wordRow_lt j) fullShare _).symm

omit [FloatOps F] in
/-- The tile's own words, as a rectangle of the shared memory. -/
theorem row_set : (Rect.unit (s := S16384) (k0_off2 L) S1024.size (k0_off2_inb L)).set = rowSet (L 1).val := by
  have ho : k0_off2 L 0 = 1024 * (L 1).val := congrFun (k0_off2_eq L) 0
  ext j
  rw [Rect.mem_set_unit, Finset.mem_filter]
  show (∀ a, k0_off2 L a ≤ (j a).val ∧ (j a).val < k0_off2 L a + S1024.size a) ↔ j ∈ Finset.univ ∧ (j 0).val / 1024 = (L 1).val
  constructor
  · intro H
    have H0 := H 0
    rw [ho] at H0
    have : (j 0).val < 1024 * (L 1).val + 1024 := H0.2
    exact ⟨Finset.mem_univ _, by omega⟩
  · rintro ⟨-, h2⟩ a
    obtain rfl := Fin.eq_zero a
    rw [ho]
    show _ ∧ (j 0).val < 1024 * (L 1).val + 1024
    omega

omit [FloatOps F] in
/-- The slice of the shared memory that a tile copies its table to is its row of 1024 words. -/
theorem pts_row (f : Vec F S16384 .f32) : ((((shM).slice (Rect.unit (s := S16384) (k0_off2 L) S1024.size (k0_off2_inb L)) (fun _ => rfl)).view.loc (V d (cV L) (jV L)) ↦[((shM).slice (Rect.unit (s := S16384) (k0_off2 L) S1024.size (k0_off2_inb L)) (fun _ => rfl)).view.set]{fullShare} f) : sProp 𝕄)
    = shLoc d (cV L) ↦[rowSet (L 1).val]{fullShare} f := by
  rw [show ((shM).slice (Rect.unit (s := S16384) (k0_off2 L) S1024.size (k0_off2_inb L)) (fun _ => rfl)).view.set = rowSet (L 1).val from
    (View.set_slice _ _).trans (Finset.map_refl.trans (row_set L))]
  rfl

omit [FloatOps F] in
/-- The slice that a reducing tile reads of tile `r`'s row is the piece of that row that goes to it. -/
theorem pts_piece (r : Fin 16) (h3 : k0_cond3 L = 1#1) (f : Vec F S16384 .f32) : ((((shM).slice (Rect.unit (s := S16384) (k0_off3 L (BitVec.ofNat 32 (1024 * r.val))) S128.size (k0_off3_inb L h3 r)) (fun _ => rfl)).view.loc (V d (cV L) (jV L)) ↦[((shM).slice (Rect.unit (s := S16384) (k0_off3 L (BitVec.ofNat 32 (1024 * r.val))) S128.size (k0_off3_inb L h3 r)) (fun _ => rfl)).view.set]{fullShare} f) : sProp 𝕄)
    = shLoc d (cV L) ↦[pieceSet r.val (L 1).val]{fullShare} f := by
  rw [show ((shM).slice (Rect.unit (s := S16384) (k0_off3 L (BitVec.ofNat 32 (1024 * r.val))) S128.size (k0_off3_inb L h3 r)) (fun _ => rfl)).view.set = pieceSet r.val (L 1).val from
    (View.set_slice _ _).trans (Finset.map_refl.trans (piece_set L r h3))]
  rfl

omit [FloatOps F] in
/-- The slice of the result that a reducing tile writes is its 128 groups. -/
theorem pts_group (h3 : k0_cond3 L = 1#1) (f : Vec F S1024 .f32) : ((((oM).slice (Rect.unit (s := S1024) (k0_off12 L) S128.size (k0_off12_inb L h3)) (fun _ => rfl)).view.loc (V d (cV L) (jV L)) ↦[((oM).slice (Rect.unit (s := S1024) (k0_off12 L) S128.size (k0_off12_inb L h3)) (fun _ => rfl)).view.set]{fullShare} f) : sProp 𝕄)
    = oLoc d ↦[groupSet (L 1).val]{fullShare} f := by
  rw [show ((oM).slice (Rect.unit (s := S1024) (k0_off12 L) S128.size (k0_off12_inb L h3)) (fun _ => rfl)).view.set = groupSet (L 1).val from
    (View.set_slice _ _).trans (Finset.map_refl.trans (out_set L h3))]

end Hand

section Tail
variable (vx : Dev nD → Vec F S100000 .f32) (vi : Dev nD → Vec F S100000 EltTy.i32) (vw vb : Dev nD → Vec F S1 .f32) (vo : Dev nD → Vec F S1024 .f32)

variable [∀ e, Nonempty (Elt F e)]

omit [FloatOps F] [∀ e, Nonempty (Elt F e)] in
/-- No group is left to a tile that reduces none. -/
theorem group_none (h3 : ¬ k0_cond3 L = 1#1) (j : S1024.Idx) (hj : j ∈ groupSet (L 1).val) : False := by
  have h := (Finset.mem_filter.mp hj).2
  have hlt : (j 0).val < 1024 := (j 0).isLt
  have := mt (red_iff L).mpr h3
  change (j 0).val / 128 = (L 1).val at h
  omega

set_option maxHeartbeats 8000000 in
/-- The second half of a tile's task: its table into the shared memory, the barrier, and, on a reducing tile, the sums. -/
theorem tail (O : CellTallies nD τ sig (HIx 1)) (W : Waits sig (HIx 1)) (hO : ∀ g, O g none = 0)
    (hOlev : ∀ g ι, 0 < O g ι → 8 * (0 : Fin 1).val + 6 ≤ (K (F := F)).lev g ι) (a1 : BitVec 32)
    (fp : Vec F S2048 .f32) (fo : Vec F S128 .f32) (fw : Vec F S16 .f32) (hfw : WB (vw d) (vb d) fw) (fs : Vec F S16384 .f32) :
    iprop(levAts (K (F := F)).L (K (F := F)).lev ∗ bkit vx vi d (cV L) (jV L)
        ∗ (shLoc d (cV L) ↦[rowSet (L 1).val]{fullShare} fs) ∗ (oLoc d ↦[groupSet (L 1).val]{fullShare} vo d)
        ∗ ((accM).view.loc (V d (cV L) (jV L)) ↦{fullShare} (table (vx d) (vi d) (L 1).val (rounds (L 1).val) : Vec F S1024 .f32))
        ∗ ((partM).view.loc (V d (cV L) (jV L)) ↦{fullShare} fp) ∗ ((outM).view.loc (V d (cV L) (jV L)) ↦{fullShare} fo) ∗ ((wbM).view.loc (V d (cV L) (jV L)) ↦{fullShare} fw)
        ∗ semVal ((V d (cV L) (jV L)), .dma cc0_scratch11.sem) 0 ∗ semVal ((V d (cV L) (jV L)), .dma cc0_scoped0.sem) 0 ∗ semVal ((V d (cV L) (jV L)), .dma cc0_scoped1.sem) 0
        ∗ owes (V d (cV L) (jV L)) (O + oxV d (cV L)) W)
      ⊢ wp frame (wpE (defs₀ (F := F)) 𝒱₀ (V d (cV L) (jV L)) none) Set.univ (do
            Prog.lift (.enqueueDma accM (.here ((shM).slice (Rect.unit (s := S16384) (k0_off2 L) S1024.size (k0_off2_inb L)) (fun _ => rfl))) (.dma cc0_scoped0.sem) (Memref.isWhole_whole _).wordExact (View.wordExact_bits rfl) ⟨Or.inl rfl, trivial⟩)
            Prog.lift (.waitDma2 cc0_scoped0.sem accM ((shM).slice (Rect.unit (s := S16384) (k0_off2 L) S1024.size (k0_off2_inb L)) (fun _ => rfl)) (Memref.isWhole_whole _).wordExact (View.wordExact_bits rfl))
            SparseCore.subcoreBarrier sc_bar0 (grid0.bound 1) hsub0
            if h3 : k0_cond3 L = 1#1 then do
              let v138 : BitVec 32 ← k0_part3 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 a1 h3
              let c : BitVec 32 ← k0_part4 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v138
              k0_part5 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v138 c
              k0_part6 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3
              let ⟨v285, v287, v304, c0, c1⟩ : Σ' (v285 : F .f32) (v287 : F .f32) (v304 : FVec F S16 .f32) (c0_i32_132 : BitVec 32), BitVec 32 ← k0_part7 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3
              let ⟨v336, _, _⟩ : Σ' (v336 : FVec F S16 .f32) (c0_i32_156 : BitVec 32), BitVec 32 ← k0_part8 L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3 v285 v287 v304 c0 c1
              let v338 : FVec F S16 .f32 ← Scf.Loop.for k0_t9_loop (k0_t9_ok L h3) v336 (k0_t9_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3)
              let v343 : Vec F S16 .f32 ← Prog.lift (.load outM (Rect.unit (s := S128) ![96] S16.size inb_S128_S16_96).toLoadRect (View.loadsAt_vmem h_S16))
              Prog.lift (.store outM (Rect.unit (s := S128) ![96] S16.size inb_S128_S16_96) (k0_pay7 v285 v287 v338) Finset.univ (View.stores_vmem_bits_univ h_S16 rfl) (.inl rfl))
              let v346 : FVec F S16 .f32 ← Scf.Loop.for k0_t10_loop (k0_t10_ok L h3) (k0_pay8 (F := F)) (k0_t10_body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1 h3)
              let v351 : Vec F S16 .f32 ← Prog.lift (.load outM (Rect.unit (s := S128) ![112] S16.size inb_S128_S16_112).toLoadRect (View.loadsAt_vmem h_S16))
              Prog.lift (.store outM (Rect.unit (s := S128) ![112] S16.size inb_S128_S16_112) (k0_pay10 v285 v287 v346) Finset.univ (View.stores_vmem_bits_univ h_S16 rfl) (.inl rfl))
              Prog.lift (.enqueueDma outM (.here ((oM).slice (Rect.unit (s := S1024) (k0_off12 L) S128.size (k0_off12_inb L h3)) (fun _ => rfl))) (.dma cc0_scoped1.sem) (Memref.isWhole_whole _).wordExact (View.wordExact_bits rfl) ⟨Or.inl rfl, trivial⟩)
              Prog.lift (.waitDma2 cc0_scoped1.sem outM ((oM).slice (Rect.unit (s := S1024) (k0_off12 L) S128.size (k0_off12_inb L h3)) (fun _ => rfl)) (Memref.isWhole_whole _).wordExact (View.wordExact_bits rfl))
              pure PUnit.unit
            else do
              pure PUnit.unit
            pure PUnit.unit)
          fun _ => iprop((oLoc d ↦[groupSet (L 1).val]{fullShare} outVal vx vi vw vb d)
            ∗ (∃ f, shLoc d (cV L) ↦[colSet (L 1).val]{fullShare} f) ∗ semVal (bcell d (cV L) (jV L)) 0
            ∗ (∃ f, ((accM).view.loc (V d (cV L) (jV L)) ↦{fullShare} f)) ∗ (∃ f, ((partM).view.loc (V d (cV L) (jV L)) ↦{fullShare} f)) ∗ (∃ f, ((outM).view.loc (V d (cV L) (jV L)) ↦{fullShare} f)) ∗ (∃ f, ((wbM).view.loc (V d (cV L) (jV L)) ↦{fullShare} f))
            ∗ semVal ((V d (cV L) (jV L)), .dma cc0_scratch11.sem) 0 ∗ semVal ((V d (cV L) (jV L)), .dma cc0_scoped0.sem) 0 ∗ semVal ((V d (cV L) (jV L)), .dma cc0_scoped1.sem) 0
            ∗ ∃ W', ⌜∀ p ∈ W', p ∈ W ∨ p.2 = none ∨ p.2 = some (0 : Fin 1)⌝ ∗ owes (V d (cV L) (jV L)) O W') := by
  unfold bkit
  iintro ⟨#Hlv, ⟨⟨%κ, #Hinv⟩, Htoks, #Hrch, Hat, Hcred⟩, Hsh, Ho, Hacc, Hpart, Hout, Hwb, Hsem11, Hsem0, Hsem1, HO⟩
  have hO' : ∀ g, (O + oxV d (cV L)) g none = 0 := fun g => by rw [Pi.add_apply, Finsupp.add_apply, hO g, oxV_none]
  ihave Hmw := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hsh' := (Entails.of_eq (pts_row (F := F) d L fs).symm) $$ Hsh
  sl_exec
  ihave Hpays := (pays_intro (F := F) d L vx vi) $$ [Hsh']
  · iapply (Entails.of_eq (pts_row (F := F) d L _))
    iapply (Entails.of_eq (pointsTo_congr ?hres)) $$ Hsh'
    intro j hj
    obtain ⟨y, -, rfl⟩ := Finset.mem_map.mp hj
    refine (View.read_writes_cons_hit_of_coords ((shM).slice (Rect.unit (s := S16384) (k0_off2 L) S1024.size (k0_off2_inb L)) (fun _ => rfl)).view fs
      (Rect.whole _) _ [] y y (fun a => (by show _ = 0 + 1 * _; omega))).trans ?_
    have hy : (y 0).val < 1024 := (y 0).isLt
    refine Eq.trans (rfl : _ = (table (vx d) (vi d) (L 1).val (rounds (L 1).val) : Vec F S1024 .f32) y) ?_
    refine (congrArg (table (vx d) (vi d) (L 1).val (rounds (L 1).val)) (spot_self (n := 1023) y).symm).trans ?_
    refine (tables_at (vx d) (vi d) (L 1).isLt hy).symm.trans ?_
    exact congrArg (tables (vx d) (vi d)) (rect_at (n := 16383) _ (congrFun (k0_off2_eq L) 0) y).symm
  iapply (SparseCore.wp_subcoreBarrier 𝒱₀ none EB (bRd (F := F) vx vi) d (sc := cV L) (i := jV L) sc_bar0 (grid0.bound 1) hsub0 (L 1) rfl κ (fun _ => 0) (jV L).val
      (fun j => bRd_mem₀ vx vi d _ _ _) (fun _ => rfl) (bRd_expect vx vi d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd (F := F) vx vi) (g := bcell d (cV L) (jV L)) (Set.mem_univ (κ _)) (fun h => h) (bRd_duties_succ vx vi _)) $$ [Hat] with Hbar
  · isplitr
    · iapply (SparseCore.ent (bigSep_elim (Φ := fun j : Fin (grid0.bound 1) =>
        (cellInv EB (bRd (F := F) vx vi) (κ (bcell d (cV L) (j.castLE hsub0))) (bcell d (cV L) (j.castLE hsub0)) : sProp 𝕄)) (Finset.mem_univ (L 1)))); iexact Hinv
    · iexact Hat
  ihave Hpcs := (pays_elim (F := F) d L vx vi) $$ Hgot
  by_cases h3 : k0_cond3 L = 1#1
  · rw [dif_pos h3]
    ihave Hpcs' := (Entails.of_eq (sixteen (F := F) _)) $$ Hpcs
    icases Hpcs' with ⟨Hp0, Hp1, Hp2, Hp3, Hp4, Hp5, Hp6, Hp7, Hp8, Hp9, Hp10, Hp11, Hp12, Hp13, Hp14, Hp15⟩
    ihave Hq0 := (Entails.of_eq (pts_piece (F := F) d L 0 h3 _).symm) $$ Hp0
    ihave Hq1 := (Entails.of_eq (pts_piece (F := F) d L 1 h3 _).symm) $$ Hp1
    ihave Hq2 := (Entails.of_eq (pts_piece (F := F) d L 2 h3 _).symm) $$ Hp2
    ihave Hq3 := (Entails.of_eq (pts_piece (F := F) d L 3 h3 _).symm) $$ Hp3
    ihave Hq4 := (Entails.of_eq (pts_piece (F := F) d L 4 h3 _).symm) $$ Hp4
    ihave Hq5 := (Entails.of_eq (pts_piece (F := F) d L 5 h3 _).symm) $$ Hp5
    ihave Hq6 := (Entails.of_eq (pts_piece (F := F) d L 6 h3 _).symm) $$ Hp6
    ihave Hq7 := (Entails.of_eq (pts_piece (F := F) d L 7 h3 _).symm) $$ Hp7
    ihave Hq8 := (Entails.of_eq (pts_piece (F := F) d L 8 h3 _).symm) $$ Hp8
    ihave Hq9 := (Entails.of_eq (pts_piece (F := F) d L 9 h3 _).symm) $$ Hp9
    ihave Hq10 := (Entails.of_eq (pts_piece (F := F) d L 10 h3 _).symm) $$ Hp10
    ihave Hq11 := (Entails.of_eq (pts_piece (F := F) d L 11 h3 _).symm) $$ Hp11
    ihave Hq12 := (Entails.of_eq (pts_piece (F := F) d L 12 h3 _).symm) $$ Hp12
    ihave Hq13 := (Entails.of_eq (pts_piece (F := F) d L 13 h3 _).symm) $$ Hp13
    ihave Hq14 := (Entails.of_eq (pts_piece (F := F) d L 14 h3 _).symm) $$ Hp14
    ihave Hq15 := (Entails.of_eq (pts_piece (F := F) d L 15 h3 _).symm) $$ Hp15
    ihave Ho' := (Entails.of_eq (pts_group (F := F) d L h3 (vo d)).symm) $$ Ho
    rw [← _root_.bind_pure (Bind.bind _ _)]
    iapply (andThen (reduce d L vx vi vw vb h3 O _ a1 trivial fp fo fw hfw (vo d))) $$ [Hq0 Hq1 Hq2 Hq3 Hq4 Hq5 Hq6 Hq7 Hq8 Hq9 Hq10 Hq11 Hq12 Hq13 Hq14 Hq15 Ho' Hpart Hout Hwb Hsem11 Hsem1 HO]
    · isplitr; · iexact Hmw2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Ho']; · iexact Ho'
      isplitl [Hpart]; · iexact Hpart
      isplitl [Hout]; · iexact Hout
      isplitl [Hwb]; · iexact Hwb
      isplitl [Hsem11]; · iexact Hsem11
      isplitl [Hsem1]; · iexact Hsem1
      iexact HO
    iintro %u
    unfold Reduced
    iintro ⟨Hp0, Hp1, Hp2, Hp3, Hp4, Hp5, Hp6, Hp7, Hp8, Hp9, Hp10, Hp11, Hp12, Hp13, Hp14, Hp15, Ho, Hpart, Hout, Hwb, Hsem11, Hsem1, %W', %hW', HO⟩
    sl_step
    isplitl [Ho]; · iapply (Entails.of_eq (pts_group (F := F) d L h3 _)); iexact Ho
    isplitl [Hp0 Hp1 Hp2 Hp3 Hp4 Hp5 Hp6 Hp7 Hp8 Hp9 Hp10 Hp11 Hp12 Hp13 Hp14 Hp15]
    · iexists _; iapply (Entails.of_eq (pieces_join (F := F) d L vx vi))
      iapply (Entails.of_eq (sixteen (F := F) _).symm)
      isplitl [Hp0]; · iapply (Entails.of_eq (pts_piece (F := F) d L 0 h3 _)); iexact Hp0
      isplitl [Hp1]; · iapply (Entails.of_eq (pts_piece (F := F) d L 1 h3 _)); iexact Hp1
      isplitl [Hp2]; · iapply (Entails.of_eq (pts_piece (F := F) d L 2 h3 _)); iexact Hp2
      isplitl [Hp3]; · iapply (Entails.of_eq (pts_piece (F := F) d L 3 h3 _)); iexact Hp3
      isplitl [Hp4]; · iapply (Entails.of_eq (pts_piece (F := F) d L 4 h3 _)); iexact Hp4
      isplitl [Hp5]; · iapply (Entails.of_eq (pts_piece (F := F) d L 5 h3 _)); iexact Hp5
      isplitl [Hp6]; · iapply (Entails.of_eq (pts_piece (F := F) d L 6 h3 _)); iexact Hp6
      isplitl [Hp7]; · iapply (Entails.of_eq (pts_piece (F := F) d L 7 h3 _)); iexact Hp7
      isplitl [Hp8]; · iapply (Entails.of_eq (pts_piece (F := F) d L 8 h3 _)); iexact Hp8
      isplitl [Hp9]; · iapply (Entails.of_eq (pts_piece (F := F) d L 9 h3 _)); iexact Hp9
      isplitl [Hp10]; · iapply (Entails.of_eq (pts_piece (F := F) d L 10 h3 _)); iexact Hp10
      isplitl [Hp11]; · iapply (Entails.of_eq (pts_piece (F := F) d L 11 h3 _)); iexact Hp11
      isplitl [Hp12]; · iapply (Entails.of_eq (pts_piece (F := F) d L 12 h3 _)); iexact Hp12
      isplitl [Hp13]; · iapply (Entails.of_eq (pts_piece (F := F) d L 13 h3 _)); iexact Hp13
      isplitl [Hp14]; · iapply (Entails.of_eq (pts_piece (F := F) d L 14 h3 _)); iexact Hp14
      iapply (Entails.of_eq (pts_piece (F := F) d L 15 h3 _)); iexact Hp15
    isplitl [Hbar]; · iexact Hbar
    isplitl [Hacc]; · iexists _; iexact Hacc
    isplitl [Hpart]; · iexact Hpart
    isplitl [Hout]; · iexact Hout
    isplitl [Hwb]; · iexists _; iexact Hwb
    isplitl [Hsem11]; · iexact Hsem11
    isplitl [Hsem0]; · iexact Hsem0
    isplitl [Hsem1]; · iexact Hsem1
    iexists _; isplitr
    swap; · iexact HO
    ipureintro; intro p hp
    rcases hW' p hp with hp | hp
    swap; · exact .inr (.inl hp)
    rcases Finset.mem_insert.mp hp with hp | hp; · exact .inr (.inr (hp ▸ rfl))
    rcases Finset.mem_insert.mp hp with hp | hp; · exact .inr (.inl (hp ▸ rfl))
    exact .inl hp
  · rw [dif_neg h3]
    sl_step
    isplitl [Ho]
    · iapply (Entails.of_eq (pointsTo_congr fun j hj => (group_none L h3 j hj).elim)); iexact Ho
    isplitl [Hpcs]
    · iexists _; iapply (Entails.of_eq (pieces_join (F := F) d L vx vi)); iexact Hpcs
    isplitl [Hbar]; · iexact Hbar
    isplitl [Hacc]; · iexists _; iexact Hacc
    isplitl [Hpart]; · iexists _; iexact Hpart
    isplitl [Hout]; · iexists _; iexact Hout
    isplitl [Hwb]; · iexists _; iexact Hwb
    isplitl [Hsem11]; · iexact Hsem11
    isplitl [Hsem0]; · iexact Hsem0
    isplitl [Hsem1]; · iexact Hsem1
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    exact .inl hp

end Tail

end Cert.Proof.Tail

end
-- ==== Proof.Tile.lean ====
/-
  One tile's whole run, from what it is handed at the start to what it hands back.
-/
module

public import proofs.«01_k».proof.Proof.Tail
public import proofs.«01_k».proof.Proof.Zero

@[expose] public section

noncomputable section

namespace Cert.Proof.Tile

open Cert.KernelIdeal Cert.KernelIdeal.Gen
open Cert.Proof.Vals Cert.Proof.Setup Cert.Proof.Scatter Cert.Proof.Zero Cert.Proof.Fill Cert.Proof.Sums Cert.Proof.Collect Cert.Proof.Tail

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (d : Dev nD) (L : grid0.Coords)

section Own

omit [FloatOps F] in
/-- Some of the parts of a resource, taken out one after another. -/
theorem peel {I : Type} [DecidableEq I] (Φ : I → sProp 𝕄) : ∀ (l : List I) (s : Finset I), l.Nodup → (∀ a ∈ l, a ∈ s) →
    ∃ R : sProp 𝕄, bigSep s Φ = l.foldr (fun a R => iprop(Φ a ∗ R)) R
  | [], s, _, _ => ⟨_, rfl⟩
  | a :: l, s, hn, hm => by
    obtain ⟨R, hR⟩ := peel Φ l (s.erase a) (List.nodup_cons.mp hn).2
      (fun b hb => Finset.mem_erase.mpr ⟨fun e => (List.nodup_cons.mp hn).1 (e ▸ hb), hm b (List.mem_cons_of_mem _ hb)⟩)
    exact ⟨R, by rw [SparseCore.bigSep_erase' (hm a (List.mem_cons_self ..)), List.foldr_cons, hR]⟩

/-- The semaphores the kernel's text uses. -/
abbrev mySems : List (SemLoc sig) := [.dma cc0_scratch6.sem, .dma cc0_scratch7.sem, .dma cc0_scratch8.sem, .dma cc0_scratch9.sem, .dma cc0_scratch10.sem, .dma cc0_scratch11.sem, .dma cc0_scoped0.sem, .dma cc0_scoped1.sem]
/-- The buffers it uses. -/
abbrev myRefs : List (Ref sig .scVector) := [cc0_scratch0, cc0_scratch1, cc0_scratch2, cc0_scratch3, cc0_scratch4, cc0_scratch5]

/-- The semaphores in use are distinct. -/
theorem mySems_nodup : mySems.Nodup := by decide
/-- Each belongs to a task. -/
theorem mySems_scoped : ∀ s ∈ mySems, s.isScoped .scVector = true := by decide
/-- The buffers in use are distinct. -/
theorem myRefs_nodup : myRefs.Nodup := by decide

omit [FloatOps F] in
/-- A tile's semaphores: the ones used, and the rest. -/
theorem ownSems0_V : ∃ R : sProp 𝕄, (ownSems0 (V d (cV L) (jV L)) : sProp 𝕄) = iprop(semVal ((V d (cV L) (jV L)), .dma cc0_scratch6.sem) 0 ∗ semVal ((V d (cV L) (jV L)), .dma cc0_scratch7.sem) 0 ∗ semVal ((V d (cV L) (jV L)), .dma cc0_scratch8.sem) 0 ∗ semVal ((V d (cV L) (jV L)), .dma cc0_scratch9.sem) 0 ∗ semVal ((V d (cV L) (jV L)), .dma cc0_scratch10.sem) 0 ∗ semVal ((V d (cV L) (jV L)), .dma cc0_scratch11.sem) 0 ∗ semVal ((V d (cV L) (jV L)), .dma cc0_scoped0.sem) 0 ∗ semVal ((V d (cV L) (jV L)), .dma cc0_scoped1.sem) 0 ∗ R) := by
  unfold SparseCore.Cfg.ownSems0
  obtain ⟨R, hR⟩ := peel (F := F) (fun g : GSem nD τ sig => (semVal g 0 : sProp 𝕄)) (mySems.map fun s => (((V d (cV L) (jV L)), s) : GSem nD τ sig)) (ownCells (V d (cV L) (jV L)))
    (List.Nodup.map (fun _ _ e => (Prod.mk.inj e).2) mySems_nodup) (fun a ha => by
      obtain ⟨s, hs, rfl⟩ := List.mem_map.mp ha
      exact mem_ownCells.mpr ⟨rfl, mySems_scoped s hs⟩)
  refine ⟨R, hR.trans ?_⟩
  simp only [mySems, List.map_cons, List.map_nil, List.foldr_cons, List.foldr_nil]

omit [FloatOps F] in
/-- A tile's buffers: the ones used, each at some contents, and the rest. -/
theorem ownBufs_V : ∃ R : sProp 𝕄, (ownBufs (V d (cV L) (jV L)) : sProp 𝕄) = iprop((∃ f, ((idsM).view.loc (V d (cV L) (jV L)) ↦{fullShare} f)) ∗ (∃ f, ((xsM).view.loc (V d (cV L) (jV L)) ↦{fullShare} f)) ∗ (∃ f, ((accM).view.loc (V d (cV L) (jV L)) ↦{fullShare} f)) ∗ (∃ f, ((partM).view.loc (V d (cV L) (jV L)) ↦{fullShare} f)) ∗ (∃ f, ((outM).view.loc (V d (cV L) (jV L)) ↦{fullShare} f)) ∗ (∃ f, ((wbM).view.loc (V d (cV L) (jV L)) ↦{fullShare} f)) ∗ R) := by
  unfold SparseCore.Cfg.ownBufs
  have hall : ∀ r ∈ myRefs, (Proc.scVector (cV L) (jV L)).devRef r ∈ ownRefs (τ := τ) (sig := sig) (Proc.scVector (cV L) (jV L)) :=
    List.forall_mem_cons.mpr ⟨SparseCore.Cfg.mem_ownRefs_of_owner (p := Proc.scVector (cV L) (jV L)) rfl, List.forall_mem_cons.mpr ⟨SparseCore.Cfg.mem_ownRefs_of_owner (p := Proc.scVector (cV L) (jV L)) rfl, List.forall_mem_cons.mpr ⟨SparseCore.Cfg.mem_ownRefs_of_owner (p := Proc.scVector (cV L) (jV L)) rfl,
      List.forall_mem_cons.mpr ⟨SparseCore.Cfg.mem_ownRefs_of_owner (p := Proc.scVector (cV L) (jV L)) rfl, List.forall_mem_cons.mpr ⟨SparseCore.Cfg.mem_ownRefs_of_owner (p := Proc.scVector (cV L) (jV L)) rfl, List.forall_mem_cons.mpr ⟨SparseCore.Cfg.mem_ownRefs_of_owner (p := Proc.scVector (cV L) (jV L)) rfl, fun _ h => absurd h (List.not_mem_nil)⟩⟩⟩⟩⟩⟩
  obtain ⟨R, hR⟩ := peel (F := F) (fun b => (iprop(∃ f, ((d, b) : Loc nD τ sig) ↦{fullShare} f) : sProp 𝕄)) (myRefs.map fun r => (Proc.scVector (cV L) (jV L)).devRef r)
    (ownRefs (τ := τ) (.scVector (cV L) (jV L)))
    (List.Nodup.map (Proc.devRef_injective _) myRefs_nodup) (fun a ha => by
      obtain ⟨r, hr, rfl⟩ := List.mem_map.mp ha
      exact hall r hr)
  refine ⟨R, hR.trans ?_⟩
  simp only [myRefs, List.map_cons, List.map_nil, List.foldr_cons, List.foldr_nil]
  try rfl

end Own

section Then

/-- A stage of two steps before the rest. -/
theorem andThen_two {α β γ : Type} {thr : Thread nD τ} {p : Prog (TpuEff nD τ sig (Elt F) Λ₀ thr.2) β} {q : β → Prog (TpuEff nD τ sig (Elt F) Λ₀ thr.2) γ}
    {k : Prog (TpuEff nD τ sig (Elt F) Λ₀ thr.2) α}
    {A : sProp 𝕄} {B : PUnit → sProp 𝕄} {Q : α → sProp 𝕄}
    (h : A ⊢ wp frame (wpE (defs₀ (F := F)) 𝒱₀ thr none) Set.univ (p >>= fun v => q v >>= fun _ => pure PUnit.unit) B) :
    A ⊢ iprop((∀ v, B v -∗ wp frame (wpE (defs₀ (F := F)) 𝒱₀ thr none) Set.univ k Q)
      -∗ wp frame (wpE (defs₀ (F := F)) 𝒱₀ thr none) Set.univ (p >>= fun v => q v >>= fun _ => k) Q) := by
  have h' := andThen (k := fun _ => k) (Q := Q) h
  simp only [LawfulMonad.bind_assoc, LawfulMonad.pure_bind] at h'
  exact h'

/-- The last stage. -/
theorem atEnd {α : Type} {thr : Thread nD τ} {p : Prog (TpuEff nD τ sig (Elt F) Λ₀ thr.2) α}
    {A : sProp 𝕄} {B Q : α → sProp 𝕄} (h : A ⊢ wp frame (wpE (defs₀ (F := F)) 𝒱₀ thr none) Set.univ p B) :
    A ⊢ iprop((∀ v, B v -∗ Q v) -∗ wp frame (wpE (defs₀ (F := F)) 𝒱₀ thr none) Set.univ p Q) :=
  h.trans (wp_wand frame (wpE (defs₀ (F := F)) 𝒱₀ thr none) Set.univ)

end Then

section Body
variable [∀ e, Nonempty (Elt F e)]
variable (vx : Dev nD → Vec F S100000 .f32) (vi : Dev nD → Vec F S100000 EltTy.i32) (vw vb : Dev nD → Vec F S1 .f32) (vo : Dev nD → Vec F S1024 .f32)

omit [FloatOps F] [∀ e, Nonempty (Elt F e)] in
/-- The slice of the group numbers that a tile before the last copies is its stretch. -/
theorem pts_i1 (h1 : k0_cond1 L = 1#1) (hr : rounds (L 1).val = 391) (f : Vec F S100000 EltTy.i32) : ((((iM).slice (Rect.unit (s := S100000) (k0_off1 L) S6256.size (k0_off1_inb L h1)) (fun _ => rfl)).view.loc (V d (cV L) (jV L)) ↦[((iM).slice (Rect.unit (s := S100000) (k0_off1 L) S6256.size (k0_off1_inb L h1)) (fun _ => rfl)).view.set]{fullShare} f) : sProp 𝕄)
    = iLoc d ↦[nodeSet (L 1).val]{fullShare} f := by
  rw [show ((iM).slice (Rect.unit (s := S100000) (k0_off1 L) S6256.size (k0_off1_inb L h1)) (fun _ => rfl)).view.set = nodeSet (L 1).val from
    (View.set_slice _ _).trans (Finset.map_refl.trans (stretch_set (L 1).isLt _ (congrFun (k0_off1_eq L) 0) (by rw [hr]; rfl)))]

omit [FloatOps F] [∀ e, Nonempty (Elt F e)] in
/-- The slice of the node values that a tile before the last copies is its stretch. -/
theorem pts_x1 (h1 : k0_cond1 L = 1#1) (hr : rounds (L 1).val = 391) (f : Vec F S100000 .f32) : ((((xM).slice (Rect.unit (s := S100000) (k0_off1 L) S6256.size (k0_off1_inb L h1)) (fun _ => rfl)).view.loc (V d (cV L) (jV L)) ↦[((xM).slice (Rect.unit (s := S100000) (k0_off1 L) S6256.size (k0_off1_inb L h1)) (fun _ => rfl)).view.set]{fullShare} f) : sProp 𝕄)
    = xLoc d ↦[nodeSet (L 1).val]{fullShare} f := by
  rw [show ((xM).slice (Rect.unit (s := S100000) (k0_off1 L) S6256.size (k0_off1_inb L h1)) (fun _ => rfl)).view.set = nodeSet (L 1).val from
    (View.set_slice _ _).trans (Finset.map_refl.trans (stretch_set (L 1).isLt _ (congrFun (k0_off1_eq L) 0) (by rw [hr]; rfl)))]

omit [FloatOps F] [∀ e, Nonempty (Elt F e)] in
/-- The slice of the group numbers that the last tile copies is its stretch. -/
theorem pts_i2 (h15 : (L 1).val = 15) (hr : rounds (L 1).val = 385) (f : Vec F S100000 EltTy.i32) : ((((iM).slice (Rect.unit (s := S100000) ![93840] S6160.size inb_S100000_S6160_93840) (fun _ => rfl)).view.loc (V d (cV L) (jV L)) ↦[((iM).slice (Rect.unit (s := S100000) ![93840] S6160.size inb_S100000_S6160_93840) (fun _ => rfl)).view.set]{fullShare} f) : sProp 𝕄)
    = iLoc d ↦[nodeSet (L 1).val]{fullShare} f := by
  rw [show ((iM).slice (Rect.unit (s := S100000) ![93840] S6160.size inb_S100000_S6160_93840) (fun _ => rfl)).view.set = nodeSet (L 1).val from
    (View.set_slice _ _).trans (Finset.map_refl.trans (stretch_set (L 1).isLt _ (by rw [h15]; rfl) (by rw [hr]; rfl)))]

omit [FloatOps F] [∀ e, Nonempty (Elt F e)] in
/-- The slice of the node values that the last tile copies is its stretch. -/
theorem pts_x2 (h15 : (L 1).val = 15) (hr : rounds (L 1).val = 385) (f : Vec F S100000 .f32) : ((((xM).slice (Rect.unit (s := S100000) ![93840] S6160.size inb_S100000_S6160_93840) (fun _ => rfl)).view.loc (V d (cV L) (jV L)) ↦[((xM).slice (Rect.unit (s := S100000) ![93840] S6160.size inb_S100000_S6160_93840) (fun _ => rfl)).view.set]{fullShare} f) : sProp 𝕄)
    = xLoc d ↦[nodeSet (L 1).val]{fullShare} f := by
  rw [show ((xM).slice (Rect.unit (s := S100000) ![93840] S6160.size inb_S100000_S6160_93840) (fun _ => rfl)).view.set = nodeSet (L 1).val from
    (View.set_slice _ _).trans (Finset.map_refl.trans (stretch_set (L 1).isLt _ (by rw [h15]; rfl) (by rw [hr]; rfl)))]

set_option maxHeartbeats 1000000 in
/-- The task on tile `L 1` of device `d`: its stretch of nodes scattered into its table, and the tail. -/
theorem tile_body (hF : (K (F := F)).Facts) (hids : ∀ n, (vi d n).toNat < 1024) (q : PosShare TreeShare) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit vx vi d (cV L) (jV L)
        ∗ (((xLoc d ↦[nodeSet (L 1).val]{fullShare} vx d) ∗ (iLoc d ↦[nodeSet (L 1).val]{fullShare} vi d) ∗ (wLoc d ↦{q} vw d) ∗ (bLoc d ↦{q} vb d)
            ∗ (oLoc d ↦[groupSet (L 1).val]{fullShare} vo d)) ∗ ∃ f, shLoc d (cV L) ↦[rowSet (L 1).val]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (cc0__body L xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1)
          fun _ => iprop(((((xLoc d ↦[nodeSet (L 1).val]{fullShare} vx d) ∗ (iLoc d ↦[nodeSet (L 1).val]{fullShare} vi d) ∗ (wLoc d ↦{q} vw d) ∗ (bLoc d ↦{q} vb d)
            ∗ (oLoc d ↦[groupSet (L 1).val]{fullShare} outVal vx vi vw vb d)) ∗ ∃ f, shLoc d (cV L) ↦[colSet (L 1).val]{fullShare} f)
              ∗ semVal (bcell d (cV L) (jV L)) 0)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L)]
  obtain ⟨RS, hRS⟩ := ownSems0_V (F := F) d L
  obtain ⟨RB, hRB⟩ := ownBufs_V (F := F) d L
  rw [hRS, hRB]
  iintro ⟨#Hlv, Hkit, ⟨⟨Hx, Hi, Hw, Hb, Ho⟩, %fs, Hsh⟩, ⟨⟨%fi, Hids⟩, ⟨%fx, Hxs⟩, ⟨%fa, Hacc⟩, ⟨%fp, Hpart⟩, ⟨%fo, Hout⟩, ⟨%fw, Hwb⟩, Hbufs⟩, ⟨Hs6, Hs7, Hs8, Hs9, Hs10, Hs11, Ht0, Ht1, Hsems⟩, HO⟩
  have hO' : ∀ g, (O + oxV d (cV L)) g none = 0 := fun g => by rw [Pi.add_apply, Finsupp.add_apply, hO g, oxV_none]
  ihave Hmw := (show levAts (K (F := F)).L (K (F := F)).lev ⊢ Transfers.MayWaits (V d (cV L) (jV L)) (default : HIx 1) (O + oxV d (cV L)) from
    (K (F := F)).mayWaits_none (thr := V d (cV L) (jV L)) hO') $$ Hlv
  iapply (andThen (zero9 d L fa (fun _ h => absurd h (Nat.not_lt_zero _)))) $$ [Hacc]
  · iexact Hacc
  iintro %r ⟨%hv9, %g9, %hg9, Hacc⟩
  obtain ⟨a1, v22⟩ := r
  iapply (andThen (zero10 d L v22 hv9 g9 hg9)) $$ [Hacc]
  · iexact Hacc
  iintro %v46 ⟨%hv10, %g10, %hg10, Hacc⟩
  iapply (andThen (zero11 d L v46 hv10 g10 hg10)) $$ [Hacc]
  · iexact Hacc
  iintro %v70 ⟨%hv11, %g11, %hg11, Hacc⟩
  iapply (andThen (zero12 d L v70 hv11 g11 hg11)) $$ [Hacc]
  · iexact Hacc
  iintro %v94 ⟨%hv12, %g12, %hg12, Hacc⟩
  iapply (andThen (zero13 d L v94 hv12 g12 hg12)) $$ [Hacc]
  · iexact Hacc
  iintro %v118 ⟨%hv13, %g13, %hg13, Hacc⟩
  sl_exec
  ihave Hacc0 := (Entails.of_eq (rfl : (iprop(∃ g : Vec F S1024 .f32, ⌜ZeroTo 1024 g⌝ ∗ ((accM).view.loc (V d (cV L) (jV L)) ↦{fullShare} g)) : sProp 𝕄) = _)) $$ [Hacc]
  · iexists _; isplitr; swap
    · iexact Hacc
    · ipureintro
      refine ZeroTo.step _ _ ?_ _ _ (fun _ => rfl)
      refine ZeroTo.step _ _ ?_ _ _ (fun _ => rfl)
      refine ZeroTo.step _ _ ?_ _ _ (fun _ => rfl)
      refine ZeroTo.step _ _ ?_ _ _ (fun _ => rfl)
      refine ZeroTo.step _ _ ?_ _ _ hv13
      exact hg13
  icases Hacc0 with ⟨%ga, %hga, Hacc⟩
  obtain rfl : ga = fun _ => zeroF := funext fun j => hga j (j 0).isLt
  by_cases h15 : (L 1).val = 15
  · have h2 : k0_cond2 L = 1#1 := (last_iff L).mpr h15
    have h1 : ¬ k0_cond1 L = 1#1 := fun h => by have := (first_iff L).mp h; omega
    have hr : rounds (L 1).val = 385 := by rw [h15]; rfl
    rw [dif_neg h1]
    beta_reduce
    rw [dif_pos h2]
    beta_reduce
    ihave Hx' := (Entails.of_eq (pts_x2 (F := F) d L h15 hr _).symm) $$ Hx
    ihave Hi' := (Entails.of_eq (pts_i2 (F := F) d L h15 hr _).symm) $$ Hi
    iapply (andThen_two (fill2 d L vx vi vw vb h2 h15 hr hids (O + oxV d (cV L)) W q trivial fi fx fw)) $$ [Hi' Hx' Hw Hb Hids Hxs Hwb Hacc Hs6 Hs9 Hs10 HO]
    · isplitr; · iexact Hmw
      isplitl [Hi']; · iexact Hi'
      isplitl [Hx']; · iexact Hx'
      isplitl [Hw]; · iexact Hw
      isplitl [Hb]; · iexact Hb
      isplitl [Hids]; · iexact Hids
      isplitl [Hxs]; · iexact Hxs
      isplitl [Hwb]; · iexact Hwb
      isplitl [Hacc]; · iexact Hacc
      isplitl [Hs6]; · iexact Hs6
      isplitl [Hs9]; · iexact Hs9
      isplitl [Hs10]; · iexact Hs10
      iexact HO
    iintro %u ⟨Hi', Hx', Hw, Hb, Hids, Hxs, ⟨%fw', %hfw, Hwb⟩, Hacc, Hs6, Hs9, Hs10, %W', %hW', HO⟩
    iapply (atEnd (tail d L vx vi vw vb vo O W' hO hOlev a1 fp fo fw' hfw fs)) $$ [Hkit Hsh Ho Hacc Hpart Hout Hwb Hs11 Ht0 Ht1 HO]
    · isplitr; · iexact Hlv
      isplitl [Hkit]; · iexact Hkit
      isplitl [Hsh]; · iexact Hsh
      isplitl [Ho]; · iexact Ho
      isplitl [Hacc]; · iexact Hacc
      isplitl [Hpart]; · iexact Hpart
      isplitl [Hout]; · iexact Hout
      isplitl [Hwb]; · iexact Hwb
      isplitl [Hs11]; · iexact Hs11
      isplitl [Ht0]; · iexact Ht0
      isplitl [Ht1]; · iexact Ht1
      iexact HO
    iintro %u' ⟨Ho, Hsh, Hbar, Hacc, Hpart, Hout, Hwb, Hs11, Ht0, Ht1, %W'', %hW'', HO⟩
    isplitl [Hx' Hi' Hw Hb Ho Hsh Hbar]
    · isplitr [Hbar]; swap; · iexact Hbar
      isplitr [Hsh]; swap; · iexact Hsh
      isplitl [Hx']; · iapply (Entails.of_eq (pts_x2 (F := F) d L h15 hr _)); iexact Hx'
      isplitl [Hi']; · iapply (Entails.of_eq (pts_i2 (F := F) d L h15 hr _)); iexact Hi'
      isplitl [Hw]; · iexact Hw
      isplitl [Hb]; · iexact Hb
      iexact Ho
    isplitl [Hids Hxs Hacc Hpart Hout Hwb Hbufs]
    · isplitl [Hids]; · iexact Hids
      isplitl [Hxs]; · iexact Hxs
      isplitl [Hacc]; · iexact Hacc
      isplitl [Hpart]; · iexact Hpart
      isplitl [Hout]; · iexact Hout
      isplitl [Hwb]; · iexact Hwb
      iexact Hbufs
    isplitl [Hs6 Hs7 Hs8 Hs9 Hs10 Hs11 Ht0 Ht1 Hsems]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Ht0]; · iexact Ht0
      isplitl [Ht1]; · iexact Ht1
      iexact Hsems
    iexists _; isplitr
    swap; · iexact HO
    ipureintro; intro p hp
    rcases hW'' p hp with hp | hp
    swap; · exact .inr hp
    rcases hW' p hp with hp | hp
    · exact .inl hp
    · exact .inr (.inl hp)
  · have h1 : k0_cond1 L = 1#1 := (first_iff L).mpr (by have : (L 1).val < 16 := (L 1).isLt; omega)
    have h2 : ¬ k0_cond2 L = 1#1 := fun h => h15 ((last_iff L).mp h)
    have hr : rounds (L 1).val = 391 := if_pos ((first_iff L).mp h1)
    rw [dif_pos h1]
    beta_reduce
    rw [dif_neg h2]
    beta_reduce
    ihave Hx' := (Entails.of_eq (pts_x1 (F := F) d L h1 hr _).symm) $$ Hx
    ihave Hi' := (Entails.of_eq (pts_i1 (F := F) d L h1 hr _).symm) $$ Hi
    iapply (andThen (fill1 d L vx vi vw vb h1 hr hids (O + oxV d (cV L)) W a1 q trivial fi fx fw)) $$ [Hi' Hx' Hw Hb Hids Hxs Hwb Hacc Hs6 Hs7 Hs8 HO]
    · isplitr; · iexact Hmw
      isplitl [Hi']; · iexact Hi'
      isplitl [Hx']; · iexact Hx'
      isplitl [Hw]; · iexact Hw
      isplitl [Hb]; · iexact Hb
      isplitl [Hids]; · iexact Hids
      isplitl [Hxs]; · iexact Hxs
      isplitl [Hwb]; · iexact Hwb
      isplitl [Hacc]; · iexact Hacc
      isplitl [Hs6]; · iexact Hs6
      isplitl [Hs7]; · iexact Hs7
      isplitl [Hs8]; · iexact Hs8
      iexact HO
    iintro %u ⟨Hi', Hx', Hw, Hb, Hids, Hxs, ⟨%fw', %hfw, Hwb⟩, Hacc, Hs6, Hs7, Hs8, %W', %hW', HO⟩
    iapply (atEnd (tail d L vx vi vw vb vo O W' hO hOlev a1 fp fo fw' hfw fs)) $$ [Hkit Hsh Ho Hacc Hpart Hout Hwb Hs11 Ht0 Ht1 HO]
    · isplitr; · iexact Hlv
      isplitl [Hkit]; · iexact Hkit
      isplitl [Hsh]; · iexact Hsh
      isplitl [Ho]; · iexact Ho
      isplitl [Hacc]; · iexact Hacc
      isplitl [Hpart]; · iexact Hpart
      isplitl [Hout]; · iexact Hout
      isplitl [Hwb]; · iexact Hwb
      isplitl [Hs11]; · iexact Hs11
      isplitl [Ht0]; · iexact Ht0
      isplitl [Ht1]; · iexact Ht1
      iexact HO
    iintro %u' ⟨Ho, Hsh, Hbar, Hacc, Hpart, Hout, Hwb, Hs11, Ht0, Ht1, %W'', %hW'', HO⟩
    isplitl [Hx' Hi' Hw Hb Ho Hsh Hbar]
    · isplitr [Hbar]; swap; · iexact Hbar
      isplitr [Hsh]; swap; · iexact Hsh
      isplitl [Hx']; · iapply (Entails.of_eq (pts_x1 (F := F) d L h1 hr _)); iexact Hx'
      isplitl [Hi']; · iapply (Entails.of_eq (pts_i1 (F := F) d L h1 hr _)); iexact Hi'
      isplitl [Hw]; · iexact Hw
      isplitl [Hb]; · iexact Hb
      iexact Ho
    isplitl [Hids Hxs Hacc Hpart Hout Hwb Hbufs]
    · isplitl [Hids]; · iexact Hids
      isplitl [Hxs]; · iexact Hxs
      isplitl [Hacc]; · iexact Hacc
      isplitl [Hpart]; · iexact Hpart
      isplitl [Hout]; · iexact Hout
      isplitl [Hwb]; · iexact Hwb
      iexact Hbufs
    isplitl [Hs6 Hs7 Hs8 Hs9 Hs10 Hs11 Ht0 Ht1 Hsems]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Ht0]; · iexact Ht0
      isplitl [Ht1]; · iexact Ht1
      iexact Hsems
    iexists _; isplitr
    swap; · iexact HO
    ipureintro; intro p hp
    rcases hW'' p hp with hp | hp
    swap; · exact .inr hp
    rcases hW' p hp with hp | hp
    · exact .inl hp
    · exact .inr (.inl hp)

end Body

end Cert.Proof.Tile

end
-- ==== Proof.Launch.lean ====
/-
  The launch of all tiles: the arrays split among them and joined again, and the first resources dealt out.
-/
module

public import proofs.«01_k».proof.Proof.Tile

@[expose] public section

noncomputable section

namespace Cert.Proof.Launch

open Cert.KernelIdeal Cert.KernelIdeal.Gen
open Cert.Proof.Vals Cert.Proof.Setup Cert.Proof.Scatter Cert.Proof.Zero Cert.Proof.Fill Cert.Proof.Sums Cert.Proof.Collect Cert.Proof.Tail Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

variable (vx : (d : Dev nD) → Buf (Elt F) (xLoc d)) (vi : (d : Dev nD) → Buf (Elt F) (iLoc d)) (vw : (d : Dev nD) → Buf (Elt F) (wLoc d))
  (vb : (d : Dev nD) → Buf (Elt F) (bLoc d)) (vo : (d : Dev nD) → Buf (Elt F) (oLoc d))

/-! ## The tile's obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call. -/
theorem defs₀_vector (c : Fin τ.nSC) (s : Fin τ.nSub) :
    defs₀ (F := F) (.scVector c s) 0 ()
      = SparseCore.onTile hcore0 hsub0 (fun c s => cc0__body (coordsV c s) xM (Memref.isWhole_whole _) iM (Memref.isWhole_whole _) wM (Memref.isWhole_whole _) bM (Memref.isWhole_whole _) oM (Memref.isWhole_whole _) idsM (Memref.isWhole_whole _) xsM (Memref.isWhole_whole _) accM (Memref.isWhole_whole _) partM (Memref.isWhole_whole _) outM (Memref.isWhole_whole _) wbM (Memref.isWhole_whole _) cc0_scratch6 cc0_scratch7 cc0_scratch8 cc0_scratch9 cc0_scratch10 cc0_scratch11 shM (Memref.isWhole_whole _) cc0_scoped0 cc0_scoped1) ⟨⟩ c s := rfl

set_option maxRecDepth 16384 in
/-- Every tile of the grid meets what the call asks of it. -/
theorem tileObl [∀ e, Nonempty (Elt F e)] (hids : ∀ d n, (vi d n).toNat < 1024) (hF : (K (F := F)).Facts) :
    (K (F := F)).TileObl (D (F := F)) 𝒱 (P vx vi vw vb vo) v₀ 0 := by
  intro d c i O W hO hOlev _
  have hc : ((K (F := F)).core 0 c).val < 1 := c.isLt
  have hci : ((K (F := F)).core 0 c).val < grid0.bound 0 ∧ ((K (F := F)).sub 0 i).val < grid0.bound 1 := ⟨c.isLt, i.isLt⟩
  rw [show (P vx vi vw vb vo).ox 0 (V d ((K (F := F)).core 0 c) ((K (F := F)).sub 0 i)) = oxV d ((K (F := F)).core 0 c) from if_pos hc,
    show (P vx vi vw vb vo).x 0 (V d ((K (F := F)).core 0 c) ((K (F := F)).sub 0 i)) = bkit vx vi d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) vx vi vw vb vo hF (hids d) (rshare (Fin.cast nSub_zero i)) O W hO hOlev

/-! ## The arrays split among the tiles and joined again -/

omit [FloatOps F] in
/-- The tasks of the call are the sixteen tiles, counted from 0. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared memory is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The five arrays are the tiles' parts of them and what is left of the weight's and of the bias's shares. -/
theorem parts_eq (d : Dev nD) (f : Buf (Elt F) (oLoc d)) :
    (allPts vx vi vw vb d f : sProp 𝕄) ⊣⊢ iprop((bigSep Finset.univ fun i : Fin 16 => partPts vx vi vw vb d i f)
      ∗ (wLoc d ↦{Transfers.shareDrop fullShare 16} vw d) ∗ (bLoc d ↦{Transfers.shareDrop fullShare 16} vb d)) := by
  unfold allPts partPts
  rw [bigSep_sep', bigSep_sep', bigSep_sep', bigSep_sep',
    pts_fibers (ℓ := xLoc d) 16 Finset.univ nodeTile (fun j _ => nodeTile_lt j) fullShare (vx d),
    pts_fibers (ℓ := iLoc d) 16 Finset.univ nodeTile (fun j _ => nodeTile_lt j) fullShare (vi d),
    pts_fibers (ℓ := oLoc d) 16 Finset.univ groupTile (fun j _ => groupTile_lt j) fullShare f]
  constructor
  · iintro ⟨Hx, Hi, Hw, Hb, Ho⟩
    ihave Hw' := (Transfers.pointsTo_toks_split fullShare 16) $$ Hw
    icases Hw' with ⟨Hwd, Hw⟩
    ihave Hb' := (Transfers.pointsTo_toks_split fullShare 16) $$ Hb
    icases Hb' with ⟨Hbd, Hb⟩
    isplitl [Hx Hi Hw Hb Ho]
    · isplitl [Hx]; · iexact Hx
      isplitl [Hi]; · iexact Hi
      isplitl [Hw]; · iexact Hw
      isplitl [Hb]; · iexact Hb
      iexact Ho
    isplitl [Hwd]; · iexact Hwd
    iexact Hbd
  · iintro ⟨⟨Hx, Hi, Hw, Hb, Ho⟩, Hwd, Hbd⟩
    isplitl [Hx]; · iexact Hx
    isplitl [Hi]; · iexact Hi
    isplitl [Hw Hwd]
    · iapply (Transfers.pointsTo_toks_join fullShare 16)
      isplitl [Hwd]; · iexact Hwd
      iexact Hw
    isplitl [Hb Hbd]
    · iapply (Transfers.pointsTo_toks_join fullShare 16)
      isplitl [Hbd]; · iexact Hbd
      iexact Hb
    iexact Ho

/-- The call's arrays and the shared memory go to the tiles, and come back from them. -/
theorem vecSplit : (K (F := F)).VecSplit (P vx vi vw vb vo) 0 := by
  intro d c
  show iprop(allPts vx vi vw vb d (vo d) ∗ ownBufs (S d (coreOf c))) ⊢ |={Set.univ}=> iprop(
      (bigSep Finset.univ fun i : Fin ((K (F := F)).nSub 0) => iprop(partPts vx vi vw vb d (Fin.cast nSub_zero i) (vo d)
        ∗ ∃ f, shLoc d (coreOf c) ↦[rowSet (Fin.cast nSub_zero i).val]{fullShare} f))
      ∗ ((bigSep Finset.univ fun i : Fin ((K (F := F)).nSub 0) => iprop((partPts vx vi vw vb d (Fin.cast nSub_zero i) (outVal vx vi vw vb d)
            ∗ ∃ f, shLoc d (coreOf c) ↦[colSet (Fin.cast nSub_zero i).val]{fullShare} f) ∗ semVal (bcell d (coreOf c) ((K (F := F)).sub 0 i)) 0))
          -∗ iprop(iprop(allPts vx vi vw vb d (outVal vx vi vw vb d) ∗ bars d c) ∗ ownBufs (S d (coreOf c)))))
  rw [bigSep_sep' _ (fun i : Fin ((K (F := F)).nSub 0) => iprop(partPts vx vi vw vb d (Fin.cast nSub_zero i) (outVal vx vi vw vb d)
            ∗ ∃ f, shLoc d (coreOf c) ↦[colSet (Fin.cast nSub_zero i).val]{fullShare} f)),
    bigSep_tasks (F := F) (fun i => iprop(partPts vx vi vw vb d i (vo d) ∗ ∃ f, shLoc d (coreOf c) ↦[rowSet i.val]{fullShare} f)),
    bigSep_tasks (F := F) (fun i => iprop(partPts vx vi vw vb d i (outVal vx vi vw vb d) ∗ ∃ f, shLoc d (coreOf c) ↦[colSet i.val]{fullShare} f)),
    bigSep_sep' _ (fun i : Fin 16 => partPts vx vi vw vb d i (vo d)), bigSep_sep' _ (fun i : Fin 16 => partPts vx vi vw vb d i (outVal vx vi vw vb d)), ownBufs_S]
  iintro ⟨Hall, ⟨%fsh, Hsh⟩, Hrest⟩; imodintro
  ihave Hall' := (parts_eq (F := F) vx vi vw vb d (vo d)).1 $$ Hall
  icases Hall' with ⟨Hparts, Hwd, Hbd⟩
  isplitl [Hparts Hsh]
  · isplitl [Hparts]; · iexact Hparts
    ihave Hsh' := ((Entails.of_eq (pts_fibers (ℓ := shLoc d (coreOf c)) 16 Finset.univ wordRow (fun j _ => wordRow_lt j) fullShare fsh)).trans
      (SparseCore.ent (bigSep_mono (Φ := fun i : Fin 16 => (shLoc d (coreOf c) ↦[rowSet i.val]{fullShare} fsh : sProp 𝕄))
      (Ψ := fun i : Fin 16 => (iprop(∃ f, shLoc d (coreOf c) ↦[rowSet i.val]{fullShare} f) : sProp 𝕄))
      fun i _ => BI.BIClass.exists_intro (Φ := fun f => (shLoc d (coreOf c) ↦[rowSet i.val]{fullShare} f : sProp 𝕄)) fsh))) $$ Hsh
    iexact Hsh'
  iintro ⟨⟨Hparts, Hsh⟩, Hbars⟩
  isplitl [Hparts Hwd Hbd Hbars]
  · isplitr [Hbars]; swap; · iexact Hbars
    iapply (parts_eq (F := F) vx vi vw vb d (outVal vx vi vw vb d)).2
    isplitl [Hparts]; · iexact Hparts
    isplitl [Hwd]; · iexact Hwd
    iexact Hbd
  isplitl [Hsh]
  · iapply (pts_fibers_join (ℓ := shLoc d (coreOf c)) 16 wordCol wordCol_lt fullShare fsh); iexact Hsh
  iexact Hrest

/-! ## The launch element of the certificate's ghost state, and what the launch hands over -/

abbrev DCI : Type := Dev nD × Fin τ.nSC × Fin τ.nSub
abbrev bcell₃ (x : DCI) : GSem nD τ sig := bcell x.1 x.2.1 x.2.2

/-- The tiles of the call's grid: SparseCore 0's. -/
abbrev tiles : Finset DCI := Finset.univ.filter fun x => x.2.1.val < 1
omit [FloatOps F] in
/-- Nothing for each of many is nothing. -/
theorem nothing_each {I : Type} (s : Finset I) : bigSep s (fun _ => (iprop(emp) : sProp 𝕄)) = iprop(emp) := bigSep_emp_const s

omit [FloatOps F] in
/-- A tile of SparseCore 0 is one of the grid's. -/
theorem mem_tiles (d : Dev nD) {c : Fin τ.nSC} (hc : c.val < 1) (i : Fin τ.nSub) : ((d, c, i) : DCI) ∈ tiles := Finset.mem_filter.mpr ⟨Finset.mem_univ _, hc⟩
/-- Their barrier cells: of the free semaphores, the ones the certificate takes at the launch. -/
def bCells : Finset (GSem nD τ sig) := tiles.image bcell₃
/-- Tile `i`'s token in tile `j`'s cell, for every pair of tiles of the grid. -/
def bToks : Finset (GSem nD τ sig × ℕ × ℕ) :=
  (tiles ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
/-- Different tiles have different barrier semaphores. -/
theorem bcell₃_injective : Function.Injective (bcell₃ : DCI → GSem nD τ sig) := by
  rintro ⟨d, c, i⟩ ⟨d', c', i'⟩ e
  simpa [bcell, V] using e

omit [FloatOps F] in
/-- The launch element is the handshakes' part and the barrier's part. -/
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore of the grid at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e), bigSep_filter]
  refine sep_elim_right.trans (bigSep_mono fun dci _ => ?_)
  split
  · next hc =>
    exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (mem_tiles dci.1 hc dci.2.2)⟩)
  · exact fun _ _ => trivial

/-- The barrier cells' invariants, allocated at once. -/
theorem invs_b : iprop((bigSep bCells fun g => (semVal g 0 : sProp 𝕄)) ∗ bigSep bCells fun g => roundState EB (bRd (F := F) vx vi) g 0)
    ⊢ |={Set.univ}=> iprop(∃ κ : GSem nD τ sig → ℕ, bigSep bCells fun g => cellInv EB (bRd (F := F) vx vi) (κ g) g) := by
  refine (Rounds.bodies_intro EB (bRd (F := F) vx vi) bCells).trans ((inv_alloc_family bCells (Rounds.body EB (bRd (F := F) vx vi)) ∅ (E := Set.univ)).trans ?_)
  iintro H
  imod H with ⟨%κ, -, Hinv⟩
  imodintro; iexists κ; iexact Hinv

omit [FloatOps F] in
/-- `n` single units on one semaphore are a tally of `n`. -/
theorem sum_tallyAt_one (g : GSem nD τ sig) (ι : HIx 1) (n : ℕ) : ∑ _ : Fin n, tallyAt g ι 1 = (tallyAt g ι n : CellTallies nD τ sig (HIx 1)) := by
  induction n with
  | zero => rw [tallyAt_zero, Fin.sum_univ_zero]
  | succ n ih => rw [← tallyAt_add, ← ih, Fin.sum_univ_castSucc]

/-- The credit for the kernels' own debts, regrouped: each tile of SparseCore 0 the sixteen units of its own cell. -/
theorem creds_b : ((P (F := F) vx vi vw vb vo).oxCred : sProp 𝕄) ⊢ bigSep tiles fun dci : DCI => cred (tallyAt (bcell₃ dci) (some 0) (grid0.bound 1)) := by
  rw [bigSep_filter]
  unfold SparseCore.Cfg.Pay.oxCred
  rw [SparseCore.Cfg.bigSep_threads (fun thr : Thread nD τ => (cred ((P (F := F) vx vi vw vb vo).oxFrom 0 thr) : sProp 𝕄))]
  refine sep_elim_right.trans (sep_elim_right.trans ?_)
  rw [bigSep_univ_prod, bigSep_univ_prod (fun dci : DCI => if dci.2.1.val < 1 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 1 then (cred (tallyAt (bcell₃ (d, ci)) (some 0) (grid0.bound 1)) : sProp 𝕄) else BI.emp)]
  refine bigSep_mono fun c _ => ?_
  dsimp only
  by_cases hc : c.val < 1
  · simp only [hc, ↓reduceIte]
    have hox : ∀ i, (P (F := F) vx vi vw vb vo).oxFrom 0 (V d c i) = oxV d c := fun i => by
      rw [show (0 : ℕ) = (0 : Fin 1).val from rfl, (P vx vi vw vb vo).oxFrom_step, (P vx vi vw vb vo).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- The tokens, dealt out by the tile that spends them. -/
theorem toks_eq : (bigSep bToks fun x => (dutyTok EB x.1 x.2.1 x.2.2 : sProp 𝕄))
    = bigSep tiles fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  obtain ⟨hcell, -, hi⟩ : bcell d c (j.castLE hsub0) = bcell d' c' (j'.castLE hsub0) ∧ (0 : ℕ) = 0 ∧ i.val = i'.val := by
    simpa only [Prod.mk.injEq] using e
  have hx := @bcell₃_injective (d, c, j.castLE hsub0) (d', c', j'.castLE hsub0) hcell
  simp only [Prod.mk.injEq, Fin.castLE_inj] at hx
  obtain ⟨rfl, rfl, rfl⟩ := hx
  obtain rfl := Fin.ext hi
  rfl

/-- The TensorCore's thread gets nothing extra. -/
theorem Px_T (d : Dev nD) : (bigSep Finset.univ fun q : Fin 1 => (P (F := F) vx vi vw vb vo).x q (SparseCore.T d)) = iprop(emp) :=
  bigSep_univ_of_subsingleton (0 : Fin 1)
/-- A sequencer gets nothing extra. -/
theorem Px_S (d : Dev nD) (c : Fin τ.nSC) : (bigSep Finset.univ fun q : Fin 1 => (P (F := F) vx vi vw vb vo).x q (S d c)) = iprop(emp) :=
  bigSep_univ_of_subsingleton (0 : Fin 1)
/-- A tile of SparseCore 0 gets its barrier kit, any other tile nothing. -/
theorem Px_V (d : Dev nD) (c : Fin τ.nSC) (i : Fin τ.nSub) :
    (bigSep Finset.univ fun q : Fin 1 => (P (F := F) vx vi vw vb vo).x q (V d c i)) = if c.val < 1 then bkit vx vi d c i else iprop(emp) :=
  bigSep_univ_of_subsingleton (0 : Fin 1)

omit [FloatOps F] in
/-- Something of every barrier cell is the same of every tile's cell. -/
theorem bCells_eq (Φ : GSem nD τ sig → sProp 𝕄) : bigSep bCells Φ = bigSep tiles fun x : DCI => Φ (bcell₃ x) := by
  unfold bCells; exact SparseCore.bigSep_image_of_injOn (fun a _ b _ e => bcell₃_injective e) Φ

/-- What every tile of the grid is handed alike: every barrier cell's invariant, and that each has reached round 0. -/
abbrev shared : sProp 𝕄 :=
  iprop((∃ κ : GSem nD τ sig → ℕ, bigSep tiles fun x : DCI => cellInv EB (bRd (F := F) vx vi) (κ (bcell₃ x)) (bcell₃ x))
    ∗ bigSep tiles fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) (h : dci ∈ tiles) : iprop(shared (F := F) vx vi ∗ mine dci) ⊢ (bkit (F := F) vx vi dci.1 dci.2.1 dci.2.2 : sProp 𝕄) := by
  obtain ⟨d, c, i⟩ := dci
  have hc : c.val < 1 := (Finset.mem_filter.mp h).2
  have inv (κ : GSem nD τ sig → ℕ) : (bigSep tiles fun x : DCI => (cellInv EB (bRd (F := F) vx vi) (κ (bcell₃ x)) (bcell₃ x) : sProp 𝕄))
      ⊢ bigSep Finset.univ fun j : Fin (grid0.bound 1) => cellInv EB (bRd (F := F) vx vi) (κ (bcell d c (j.castLE hsub0))) (bcell d c (j.castLE hsub0)) :=
    bigSep_intro_persistent fun j _ => bigSep_elim (Φ := fun x : DCI => (cellInv EB (bRd (F := F) vx vi) (κ (bcell₃ x)) (bcell₃ x) : sProp 𝕄))
      (mem_tiles d hc (j.castLE hsub0))
  have here : (bigSep tiles fun x : DCI => (reached EB (bcell₃ x) 0 : sProp 𝕄))
      ⊢ bigSep Finset.univ fun j : Fin (grid0.bound 1) => reached EB (bcell d c (j.castLE hsub0)) 0 :=
    bigSep_intro_persistent fun j _ => bigSep_elim (Φ := fun x : DCI => (reached EB (bcell₃ x) 0 : sProp 𝕄)) (mem_tiles d hc (j.castLE hsub0))
  unfold bkit
  iintro ⟨⟨⟨%κ, #Hinv⟩, #Hr⟩, Hat, Htok, Hcred⟩
  ihave Hinv' := (inv κ) $$ Hinv
  ihave Hr' := here $$ Hr
  isplitl [Hinv']; · iexists κ; iexact Hinv'
  isplitl [Htok]; · iexact Htok
  isplitl [Hr']; · iexact Hr'
  isplitl [Hat]; · iexact Hat
  iexact Hcred

/-- Each tile of the grid its kit. -/
theorem kits_deal :
    iprop(shared (F := F) vx vi ∗ (bigSep tiles fun x : DCI => atPos EB (bcell₃ x) 0 ∅ 0)
        ∗ (bigSep tiles fun dci : DCI => bigSep Finset.univ fun j : Fin (grid0.bound 1) => dutyTok EB (bcell dci.1 dci.2.1 (j.castLE hsub0)) 0 dci.2.2.val)
        ∗ (bigSep tiles fun dci : DCI => cred (tallyAt (bcell₃ dci) (some 0) (grid0.bound 1))))
      ⊢ (bigSep Finset.univ fun thr : Thread nD τ => bigSep Finset.univ fun q : Fin 1 => (P (F := F) vx vi vw vb vo).x q thr : sProp 𝕄) := by
  rw [SparseCore.Cfg.bigSep_threads (fun thr : Thread nD τ => bigSep Finset.univ fun q : Fin 1 => (P vx vi vw vb vo).x q thr)]
  simp only [Px_T, Px_S, Px_V, nothing_each]
  iintro ⟨#Hsh, Hat, Htok, Hcred⟩
  isplitr; · iempintro
  isplitr; · iempintro
  iapply (SparseCore.ent (Entails.of_eq (bigSep_filter Finset.univ (fun x : DCI => x.2.1.val < 1) fun x => bkit (F := F) vx vi x.1 x.2.1 x.2.2)))
  iapply (bigSep_with_persistent (R := shared (F := F) vx vi) (Φ := mine (F := F)) fun dci h => kit_intro (F := F) vx vi dci h)
  isplitr; · iexact Hsh
  unfold mine
  rw [bigSep_sep', bigSep_sep']
  isplitl [Hat]; · iexact Hat
  isplitl [Htok]; · iexact Htok
  iexact Hcred

/-- The launch element, the credit and the free semaphores become what the handshakes start from and every tile's kit. -/
theorem hu₀ : iprop(ownU (u₀ (F := F)) ∗ (P (F := F) vx vi vw vb vo).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P vx vi vw vb vo).x q thr) : sProp 𝕄) := by
  unfold u₀
  iintro ⟨Hu, Hcred, Hfree⟩
  ihave H := (ownU_split _ _) $$ Hu
  icases H with ⟨HH, HB⟩
  imod (Rounds.fund EB (bRd (F := F) vx vi) bCells bToks) $$ HB with ⟨Hst, #Hr, Hat, Htok⟩
  ihave Hsems := (sems_b (F := F)) $$ Hfree
  imod (invs_b (F := F) vx vi) $$ [Hsems Hst] with ⟨%κ, #Hinv⟩
  · isplitl [Hsems] <;> iassumption
  ihave Hcred' := (creds_b vx vi vw vb vo) $$ Hcred
  ihave Hinv' := (Entails.of_eq (bCells_eq (F := F) fun g => cellInv EB (bRd (F := F) vx vi) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [nothing_each]; iempintro
  iapply (kits_deal vx vi vw vb vo)
  isplitr
  · isplitl; · iexists κ; iexact Hinv'
    iexact Hr'
  isplitl [Hat']; · iexact Hat'
  isplitl [Htok']; · iexact Htok'
  iexact Hcred'

end Cert.Proof.Launch

end
-- ==== Proof.Main.lean ====
/-
  The program with its host code: the reshapes, the call, the last reshape, and the run of all threads.
-/
module

public import proofs.«01_k».proof.Proof.Launch
public import Idealize.ShloMosaic.Lib.StableHlo.Run
public import Idealize.ShloMosaic.Lib.SparseCore.Quiescent

@[expose] public section

noncomputable section

namespace Cert.Proof.Main

open Cert.KernelIdeal Cert.KernelIdeal.Gen
open Cert.Proof.Vals Cert.Proof.Setup Cert.Proof.Scatter Cert.Proof.Zero Cert.Proof.Fill Cert.Proof.Sums Cert.Proof.Collect Cert.Proof.Tail Cert.Proof.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xM" => (Memref.whole Cert.KernelIdeal.main_v0_scv : Memref Cert.KernelIdeal.sig Kind.scVector Space.hbm Cert.KernelIdeal.S100000 EltTy.f32)
local notation "iM" => (Memref.whole Cert.KernelIdeal.main_arg1_scv : Memref Cert.KernelIdeal.sig Kind.scVector Space.hbm Cert.KernelIdeal.S100000 EltTy.i32)
local notation "wM" => (Memref.whole Cert.KernelIdeal.main_v1_scv : Memref Cert.KernelIdeal.sig Kind.scVector Space.hbm Cert.KernelIdeal.S1 EltTy.f32)
local notation "bM" => (Memref.whole Cert.KernelIdeal.main_arg3_scv : Memref Cert.KernelIdeal.sig Kind.scVector Space.hbm Cert.KernelIdeal.S1 EltTy.f32)
local notation "oM" => (Memref.whole Cert.KernelIdeal.main_v2_scv : Memref Cert.KernelIdeal.sig Kind.scVector Space.hbm Cert.KernelIdeal.S1024 EltTy.f32)
local notation "idsM" => (Memref.whole Cert.KernelIdeal.cc0_scratch0 : Memref Cert.KernelIdeal.sig Kind.scVector Space.vmem Cert.KernelIdeal.S6256 EltTy.i32)
local notation "xsM" => (Memref.whole Cert.KernelIdeal.cc0_scratch1 : Memref Cert.KernelIdeal.sig Kind.scVector Space.vmem Cert.KernelIdeal.S6256 EltTy.f32)
local notation "accM" => (Memref.whole Cert.KernelIdeal.cc0_scratch2 : Memref Cert.KernelIdeal.sig Kind.scVector Space.vmem Cert.KernelIdeal.S1024 EltTy.f32)
local notation "partM" => (Memref.whole Cert.KernelIdeal.cc0_scratch3 : Memref Cert.KernelIdeal.sig Kind.scVector Space.vmem Cert.KernelIdeal.S2048 EltTy.f32)
local notation "outM" => (Memref.whole Cert.KernelIdeal.cc0_scratch4 : Memref Cert.KernelIdeal.sig Kind.scVector Space.vmem Cert.KernelIdeal.S128 EltTy.f32)
local notation "wbM" => (Memref.whole Cert.KernelIdeal.cc0_scratch5 : Memref Cert.KernelIdeal.sig Kind.scVector Space.vmem Cert.KernelIdeal.S16 EltTy.f32)
local notation "shM" => (Memref.whole Cert.KernelIdeal.cc0_scratch12 : Memref Cert.KernelIdeal.sig Kind.scVector Space.shared Cert.KernelIdeal.S16384 EltTy.f32)

open Idealize.ShloMosaic.StableHlo

variable (m : (ℓ : Loc nD τ sig) → Buf (Elt F) ℓ) (ρ : Dev nD → PrngReg)

/-! ## The values -/

/-- The node values, as the call reads them. -/
abbrev vx (d : Dev nD) : Buf (Elt F) (xLoc d) := shapeCast S100000 (m ((SparseCore.T d).loc main_arg0)) shapeCasts_S100000x1_S100000
/-- The group numbers. -/
abbrev vi (d : Dev nD) : Buf (Elt F) (iLoc d) := m (iLoc d)
/-- The weight, as the call reads it. -/
abbrev vw (d : Dev nD) : Buf (Elt F) (wLoc d) := shapeCast S1 (m ((SparseCore.T d).loc main_arg2)) shapeCasts_S1x1_S1
/-- The bias. -/
abbrev vb (d : Dev nD) : Buf (Elt F) (bLoc d) := m (bLoc d)
/-- What the call's result buffer holds before the call. -/
abbrev vo (d : Dev nD) : Buf (Elt F) (oLoc d) := m (oLoc d)
/-- What the program leaves in its result. -/
abbrev final (d : Dev nD) : Buf (Elt F) ((SparseCore.T d : Thread nD τ).loc main_v3) :=
  shapeCast S1024x1 (outVal (vx m) (vi m) (vw m) (vb m) d) shapeCasts_S1024_S1024x1

/-! ## A host reshape -/

/-- One reshape on the host: it reads `x` and leaves its elements in `y`. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (hxy : (Proc.devRef .tc x : DevRef τ sig) ≠ Proc.devRef .tc y) (W : Valuation τ sig (Elt F))
    {Q : PUnit → sProp 𝕄} :
    iprop(boundary (SparseCore.T d) ∗ ((SparseCore.T d).loc x ↦{fullShare} W (Proc.devRef .tc x)) ∗ ((SparseCore.T d).loc y ↦{fullShare} W (Proc.devRef .tc y)))
      ⊢ iprop(((boundary (SparseCore.T d) ∗ ((SparseCore.T d).loc x ↦{fullShare} W (Proc.devRef .tc x))
            ∗ ((SparseCore.T d).loc y ↦{fullShare} fun i => he ▸ shapeCast y.ty.shape (W (Proc.devRef .tc x)) hn i))
          -∗ Q ⟨⟩)
        -∗ wp frame (wpE ((K (F := F)).defs (D (F := F))) 𝒱 (SparseCore.T d) none) Set.univ
            (hlo rfl (StableHlo.reshape x y he hn hx hy) fun _ => .ret ⟨⟩) Q) := by
  have two : ∀ W : Valuation τ sig (Elt F), (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := fun W => by
    unfold held
    rw [SparseCore.bigSep_insert' (by rw [Finset.mem_singleton]; exact hxy), bigSep_singleton]
  have hr := two ((StableHlo.reshape x y he hn hx hy : HloOp τ sig (Elt F)).result W)
  rw [StableHlo.reshape_result, (StableHlo.reshape x y he hn hx hy : HloOp τ sig (Elt F)).result_of_not_mem W (b := Proc.devRef .tc x)
    (show _ ∉ ({_} : Finset (DevRef τ sig)) by rw [Finset.mem_singleton]; exact hxy)] at hr
  iintro ⟨Hb, Hx, Hy⟩ Hk
  iapply (wp_hlo_within 𝒱 (SparseCore.T d) none Set.univ (op := StableHlo.reshape x y he hn hx hy)
    (S := {Proc.devRef .tc x, Proc.devRef .tc y}) (Finset.Subset.refl _) (V := W)) $$ [Hb Hx Hy]
  · isplitl [Hb]; · iexact Hb
    rw [two]
    isplitl [Hx]; · iexact Hx
    iexact Hy
  rw [hr, wp_ret]
  iintro H; imodintro; iapply Hk; iexact H

/-! ## The host program -/

omit [FloatOps F] in
/-- The host's eight arrays, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1)
      ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the call takes: the five arrays. -/
theorem st0_eq (d : Dev nD) : (bigSep Finset.univ fun c : Fin ((K (F := F)).nCore 0) => (P (vx m) (vi m) (vw m) (vb m) (vo m)).st 0 d c)
    = allPts (vx m) (vi m) (vw m) (vb m) d (vo m d) :=
  bigSep_univ_of_subsingleton (0 : Fin 1)

/-- What the call hands back: the five arrays, the result written, and the barrier's cells at zero. -/
theorem dn0_eq (d : Dev nD) : (bigSep Finset.univ fun c : Fin ((K (F := F)).nCore 0) => (P (vx m) (vi m) (vw m) (vb m) (vo m)).dn 0 d c)
    = iprop(allPts (vx m) (vi m) (vw m) (vb m) d (outVal (vx m) (vi m) (vw m) (vb m) d) ∗ bars d 0) :=
  bigSep_univ_of_subsingleton (0 : Fin 1)

/-- What device `d`'s host program ends with: the arguments as they were, the result, and the barrier's cells at zero. -/
abbrev FIN (d : Dev nD) : sProp 𝕄 :=
  iprop((((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v3 ↦{fullShare} final m d)) ∗ bars d 0)

/-- What the device's arrays hold when the host reshapes the call's result. -/
def after (d : Dev nD) : Valuation τ sig (Elt F) :=
  Function.update (fun b => m (d, b)) (Proc.devRef .tc main_v2) (outVal (vx m) (vi m) (vw m) (vb m) d)

/-- After the call its result array holds the kernel's result. -/
theorem after_v2 (d : Dev nD) : after m d (Proc.devRef .tc main_v2) = outVal (vx m) (vi m) (vw m) (vb m) d := Function.update_self _ _ _
/-- The call leaves the program's last array as it was. -/
theorem after_v3 (d : Dev nD) : after m d (Proc.devRef .tc main_v3) = m ((SparseCore.T d).loc main_v3) :=
  Function.update_of_ne (show (Proc.devRef .tc main_v3 : DevRef τ sig) ≠ Proc.devRef .tc main_v2 by decide) _ _

set_option maxHeartbeats 1000000 in
/-- The host program: the two reshapes, the call, the reshape of its result. -/
theorem hmain (κ : GSem nD τ sig → ℕ) (d : Dev nD) :
    iprop((K (F := F)).ctx EH (P (vx m) (vi m) (vw m) (vb m) (vo m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hi, Hc, Hbi, Hv0, Hv1, Hv2, Hv3⟩, Hts, -⟩, -⟩
  iapply (wp_reshape (F := F) d main_arg0 main_v0 _ _ _ _ (by decide) (fun b => m (d, b))) $$ [Hb Ha Hv0]
  · isplitl [Hb]; · iexact Hb
    isplitl [Ha]; · iexact Ha
    iexact Hv0
  iintro ⟨Hb, Ha, Hv0⟩
  iapply (wp_reshape (F := F) d main_arg2 main_v1 _ _ _ _ (by decide) (fun b => m (d, b))) $$ [Hb Hc Hv1]
  · isplitl [Hb]; · iexact Hb
    isplitl [Hc]; · iexact Hc
    iexact Hv1
  iintro ⟨Hb, Hc, Hv1⟩
  iapply ((K (F := F)).wp_run (D (F := F)) 𝒱 (EH := EH) (P := P (vx m) (vi m) (vw m) (vb m) (vo m)) κ d 0) $$ [Hst Ha Hi Hc Hbi Hv0 Hv1 Hv2 Hv3 Hb Hts]
  isplitr; · iexact Hctx
  isplitl [Hst]; · iexact Hst
  isplitl [Hi Hbi Hv0 Hv1 Hv2]
  · rw [st0_eq]; unfold allPts
    isplitl [Hv0]; · iexact Hv0
    isplitl [Hi]; · iexact Hi
    isplitl [Hv1]; · iexact Hv1
    isplitl [Hbi]; · iexact Hbi
    iexact Hv2
  iintro ⟨Hst, Hdn⟩
  ihave Hdn' := (Entails.of_eq (dn0_eq m d)) $$ Hdn
  unfold allPts
  icases Hdn' with ⟨⟨-, Hi, -, Hbi, Hv2⟩, Hbars⟩
  iapply (wp_reshape (F := F) d main_v2 main_v3 _ _ _ _ (by decide) (after m d)) $$ [Hb Hv2 Hv3]
  · isplitl [Hb]; · iexact Hb
    rw [after_v2, after_v3]
    isplitl [Hv2]; · iexact Hv2
    iexact Hv3
  rw [after_v2]
  iintro ⟨Hb, -, Hv3⟩
  imodintro
  isplitl [Hst]; · iexact Hst
  isplitr [Hb Hts]
  · isplitr [Hbars]; swap; · iexact Hbars
    isplitl [Ha]; · iexact Ha
    isplitl [Hi]; · iexact Hi
    isplitl [Hc]; · iexact Hc
    isplitl [Hbi]; · iexact Hbi
    iexact Hv3
  isplitl [Hb] <;> iassumption

/-! ## The run -/

/-- What the final state satisfies at device `d`. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v3) = final m d)
  ∧ ∀ i : Fin ((K (F := F)).nSub 0), s'.mem.sem (bcell d (coreOf (F := F) 0) ((K (F := F)).sub 0 i)) = 0

omit [FloatOps F] in
/-- An array held whole is what the memory holds there. -/
theorem reads (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The end of every device's program is seen in the final state. -/
theorem hfin (d : Dev nD) (s' : Phys nD τ sig (Elt F)) : iprop(FIN m d ∗ SI s') ⊢ (⌜fq m d s'⌝ : sProp 𝕄) :=
  fun x hx => ⟨⟨((sep_mono_left (sep_elim_left.trans sep_elim_left)).trans (reads _ _ s')) x hx,
      ((sep_mono_left (sep_elim_left.trans (sep_elim_right.trans sep_elim_left))).trans (reads _ _ s')) x hx,
      ((sep_mono_left (sep_elim_left.trans (sep_elim_right.trans (sep_elim_right.trans sep_elim_left)))).trans (reads _ _ s')) x hx,
      ((sep_mono_left (sep_elim_left.trans (sep_elim_right.trans (sep_elim_right.trans (sep_elim_right.trans sep_elim_left))))).trans (reads _ _ s')) x hx,
      ((sep_mono_left (sep_elim_left.trans (sep_elim_right.trans (sep_elim_right.trans (sep_elim_right.trans sep_elim_right))))).trans (reads _ _ s')) x hx⟩,
    fun i => ((sep_mono_left (sep_elim_right.trans (SparseCore.ent (bigSep_elim (Finset.mem_univ i))))).trans (SparseCore.Cfg.semVal_zero_read _ s')) x hx⟩

/-- The barrier's cells end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  obtain rfl : c = coreOf (F := F) 0 := Fin.ext (Nat.lt_one_iff.mp (Finset.mem_filter.mp hx).2)
  exact (h d).2 ⟨i.val, i.isLt⟩

/-- The program's end: the arguments as they were, the result, every counter at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_v3) = final m d) ∧ r.2.sem = fun _ => 0

/-- From any memory whose group numbers are below 1024 the program runs to that end. -/
theorem run_main [∀ e, Nonempty (Elt F e)] (hids : ∀ (d : Dev nD) n, (vi m d n).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vx m) (vi m) (vw m) (vb m) (vo m)) (hA := hA m) facts v₀
    (fun q hq => match q with | 0 => nomatch hq)
    (fun q _ => match q with | 0 => tileObl (vx m) (vi m) (vw m) (vb m) (vo m) hids facts)
    (fun q _ => match q with | 0 => vecSplit (vx m) (vi m) (vw m) (vb m) (vo m))
    m ρ main (fun _ => iprop(emp)) (FIN m) (u₀ (F := F)) (hu₀ (vx m) (vi m) (vw m) (vb m) (vo m)) (hmain m ρ) (fq m) (hfin m) (QC m) (fun _ h hz => ⟨fun c => (h c).1, hz⟩)

end Cert.Proof.Main

end
-- ==== Proof.Range.lean ====
/-
  What the precondition says of the group numbers: each is below 1024.
-/
module

public import proofs.«01_k».proof.Defs
public import proofs.«01_k».proof.Proof.Gen.Pre_ids_in_range
public import Idealize.ShloMosaic.Lib.ReduceAll

@[expose] public section

noncomputable section

namespace Cert.Proof.Range

open Idealize.ShloMosaic Cert.Pre_ids_in_range Cert.Pre_ids_in_range.Gen

/-- A word that is at least zero and below 1024, read signed, is below 1024 read unsigned. -/
theorem word_lt (x : BitVec 32) (h0 : (0#32).sle x = true) (h1 : x.slt 1024#32 = true) : x.toNat < 1024 := by
  rw [BitVec.sle_eq_decide, decide_eq_true_eq] at h0
  rw [BitVec.slt_eq_decide, decide_eq_true_eq] at h1
  have e0 : (0#32).toInt = 0 := by decide
  have e1 : (1024#32).toInt = 1024 := by decide
  rw [e0] at h0
  rw [e1] at h1
  rw [BitVec.toInt_eq_toNat_cond] at h0 h1
  split at h0 <;> rename_i hc
  · rw [if_pos hc] at h1; omega
  · have := x.isLt; omega

/-- Under the precondition every group number is below 1024. -/
theorem ids_lt {F : FTy → Type} [FloatOps F] (a0 : FVec F S100000x1 .f32) (a1 : IVec S100000 32) (a2 : FVec F S1x1 .f32) (a3 : FVec F S1 .f32)
    (h : Cert.Pre_ids_in_range.fn a0 a1 a2 a3 = fun _ => 1#1) (n : S100000.Idx) : (a1 n).toNat < 1024 := by
  haveI : Subsingleton S_.Idx := ⟨fun a b => funext fun i => i.elim0⟩
  have e := Host.reduce_andi_all _ _ _ _ (fun i => i.elim0) (congrFun h (fun i => i.elim0)) n
  change BitVec.ofBool ((0#32).sle (a1 n)) &&& BitVec.ofBool ((a1 n).slt 1024#32) = 1#1 at e
  have hb : ∀ p q : Bool, BitVec.ofBool p &&& BitVec.ofBool q = 1#1 → p = true ∧ q = true := by decide
  exact word_lt _ (hb _ _ e).1 (hb _ _ e).2

end Cert.Proof.Range

end
-- ==== Proof.Frames.lean ====
/-
  The frames: the kernel's, as captured and as idealized, from the one run of the tiles, and the
  reference's, from its own run.
-/
module

public import proofs.«01_k».proof.Defs
public import proofs.«01_k».proof.Proof.Main
public import proofs.«01_k».proof.Proof.Range
public import proofs.«01_k».proof.Proof.Gen.Kernel
public import proofs.«01_k».proof.Proof.Gen.Kernel.Skeleton
public import proofs.«01_k».proof.Proof.Gen.ReferenceIdeal.Run

@[expose] public section

noncomputable section

namespace Cert.Proof.Frames

open Idealize.ShloMosaic Idealize.SL.Sem

/-- The captured kernel's frame. -/
theorem frame_kernel : Cert.quiescent_Kernel := fun m ρ hpre =>
  (θ_run Cert.KernelIdeal.defs _ _).mono (fun _ h => ⟨fun c => ⟨(h.1 c).1, (h.1 c).2.1, (h.1 c).2.2.1, (h.1 c).2.2.2.1⟩, h.2⟩)
    (Main.run_main (F := Bits) m ρ fun d n => Range.ids_lt _ _ _ _ (hpre d) n)

/-- The idealized kernel's frame. -/
theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (Main.run_main (F := Ideal) m ρ fun d n => Range.ids_lt _ _ _ _ (hpre d) n)

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the kernel's precondition, which it does not need. -/
theorem frame_reference_pre : Cert.quiescent_ReferenceIdeal_pre_ids_in_range := fun m ρ _ => frame_reference m ρ trivial

end Cert.Proof.Frames

end
-- ==== Proof.Total.lean ====
/-
  The kernel's result read in the extended reals: each group's number is the sum, over all the nodes,
  of the values of those that belong to it, times the weight, plus the bias.
-/
module

public import proofs.«01_k».proof.Proof.Vals
public import Idealize.ShloMosaic.PureOps.Ideal.Laws

@[expose] public section

noncomputable section

namespace Cert.Proof.Total

open Cert.KernelIdeal Cert.Proof.Vals Idealize.ShloMosaic
open Finset

/-! ## Sums cut into blocks -/

/-- A sum over `L` blocks of `R` numbers each is the sum over them all. -/
theorem sum_blocks (f : ℕ → EReal) (R L : ℕ) : (∑ l ∈ range L, ∑ k ∈ range R, f (l * R + k)) = ∑ n ∈ range (L * R), f n := by
  induction L with
  | zero => rw [Nat.zero_mul, sum_range_zero, sum_range_zero]
  | succ L ih => rw [sum_range_succ, ih, Nat.succ_mul, sum_range_add]

/-- One tile's stretch: its rounds and lanes take each of its nodes once. -/
theorem sum_stretch (f : ℕ → EReal) (i : ℕ) :
    (∑ k ∈ range (rounds i), ∑ l ∈ range 16, f (node i k l)) = ∑ n ∈ range (16 * rounds i), f (6256 * i + n) := by
  rw [sum_comm]
  exact sum_blocks (fun n => f (6256 * i + n)) (rounds i) 16

/-- The sixteen stretches take each node once. -/
theorem sum_nodes (f : ℕ → EReal) :
    (∑ i ∈ range 16, ∑ k ∈ range (rounds i), ∑ l ∈ range 16, f (node i k l)) = ∑ n ∈ range 100000, f n := by
  rw [sum_congr rfl fun i _ => sum_stretch f i, sum_range_succ, show (100000 : ℕ) = 15 * 6256 + 6160 from rfl, sum_range_add, ← sum_blocks f 6256 15]
  refine congrArg₂ (· + ·) (sum_congr rfl fun i hi => ?_) ?_
  · rw [show rounds i = 391 from if_pos (mem_range.mp hi), Nat.mul_comm 6256 i]
  · rw [show rounds 15 = 385 from if_neg (Nat.lt_irrefl 15)]

/-! ## A tile's table -/

section
variable (xs : Vec Ideal S100000 .f32) (ids : Vec Ideal S100000 (EltTy.i32)) (w b : Vec Ideal S1 .f32)

/-- What node `n` gives group `g`. -/
def share (g : S1024.Idx) (n : ℕ) : EReal := if (g 0).val = (ids (spot 99999 n)).toNat then xs (spot 99999 n) else 0

/-- One lane's addition, read at a group. -/
theorem addLane_apply (i k : ℕ) (t : Vec Ideal S1024 .f32) (l : Fin 16) (g : S1024.Idx) :
    addLane xs ids i k t l g = (t g + share xs ids g (node i k l) : EReal) := by
  unfold addLane share
  split
  · rfl
  · exact (add_zero (t g : EReal)).symm

/-- The additions of a list of lanes, read at a group. -/
theorem lanes_apply (i k : ℕ) (g : S1024.Idx) (ls : List (Fin 16)) (t : Vec Ideal S1024 .f32) :
    ls.foldl (addLane xs ids i k) t g = (t g + (ls.map fun l => share xs ids g (node i k l.val)).sum : EReal) := by
  induction ls generalizing t with
  | nil => exact (add_zero (t g : EReal)).symm
  | cons l ls ih =>
    rw [List.foldl_cons, ih, addLane_apply, List.map_cons, List.sum_cons]
    exact add_assoc _ _ _

/-- The zero the sums start from is the number zero. -/
theorem zero_eq : (zeroF (F := Ideal) : EReal) = 0 := Ideal.ofBits_zero_f32

/-- A tile's table after `k` rounds, read at a group. -/
theorem table_apply (i : ℕ) (g : S1024.Idx) (k : ℕ) :
    table xs ids i k g = (∑ k' ∈ range k, ∑ l ∈ range 16, share xs ids g (node i k' l) : EReal) := by
  induction k with
  | zero => rw [sum_range_zero]; exact zero_eq
  | succ k ih =>
    rw [sum_range_succ, ← ih, sum_range (fun l => share xs ids g (node i k l)), Fin.sum_univ_def]
    exact lanes_apply xs ids i k g _ _

/-- The first `r` tiles' entries for a group, summed. -/
theorem upTo_apply (g : S1024.Idx) (r : ℕ) :
    upTo xs ids g r = (∑ i ∈ range r, ∑ k ∈ range (rounds i), ∑ l ∈ range 16, share xs ids g (node i k l) : EReal) := by
  induction r with
  | zero => rw [sum_range_zero]; exact zero_eq
  | succ r ih =>
    rw [sum_range_succ, ← ih, ← table_apply]
    rfl

/-- The kernel's result for a group. -/
theorem result_apply (g : S1024.Idx) :
    result xs ids w b g = ((∑ n ∈ range 100000, share xs ids g n) * w (spot 0 0) + b (spot 0 0) : EReal) := by
  rw [← sum_nodes, ← upTo_apply]
  rfl

end

end Cert.Proof.Total

end
-- ==== Proof.RefValue.lean ====
/-
  The reference's result read at an index, in the extended reals: the scatter's entry for the group times
  the weight, plus the bias.
-/
module

public import proofs.«01_k».proof.Proof.Vals
public import proofs.«01_k».proof.Proof.Gen.ReferenceIdeal
public import Idealize.ShloMosaic.PureOps.Ideal.Laws
public import Idealize.ShloMosaic.Lib.StackMember
public import Idealize.ShloMosaic.Lib.ValueIdxCore

@[expose] public section

noncomputable section

namespace Cert.Proof.RefValue

open Cert.ReferenceIdeal Cert.ReferenceIdeal.Gen Idealize.ShloMosaic
open Idealize.ShloMosaic.ValueIdx (ix2 eq_ix2)
open Cert.Proof.Vals (spot)

/-- The reference's scatter. -/
abbrev scat : ScatterDims S1024x1 S100000x1 S100000x1 := scatter_S1024x1_S100000x1_S100000x1_1_0_0_1

/-- An update's window starts, on the groups' axis, at its index word. -/
theorem start_zero (j : S100000x1.Idx) (idx : IVec S100000x1 32) : scat.start j idx 0 = (idx j).toInt := by
  unfold ScatterDims.start
  rw [dif_pos (show (0 : Fin 2) ∈ scat.scatterDimsToOperandDims from List.mem_singleton.2 rfl)]
  refine congrArg (fun i => (idx i).toInt) (funext fun b => Fin.ext ?_)
  match b with
  | ⟨0, _⟩ => rfl
  | ⟨1, h⟩ => exact (Nat.lt_one_iff.mp (j ⟨1, h⟩).isLt).symm

/-- It starts at zero on the other axis. -/
theorem start_one (j : S100000x1.Idx) (idx : IVec S100000x1 32) : scat.start j idx 1 = 0 := rfl

/-- The window has one place. -/
theorem window_zero (j : S100000x1.Idx) : scat.window j 0 = 0 := rfl
/-- An update's column inside its window is 0, there being one column. -/
theorem window_one (j : S100000x1.Idx) : scat.window j 1 = 0 := Nat.lt_one_iff.mp (j 1).isLt

/-- An update lands in a group exactly when its index word is the group's number. -/
theorem lands (j : S100000x1.Idx) (idx : IVec S100000x1 32) (g : S1024x1.Idx) :
    scat.resultIdx? j idx = some g ↔ (idx j).toInt = ((g 0).val : Int) := by
  have hg : (g 0).val < 1024 := (g 0).isLt
  have hg1 : (g 1).val = 0 := Nat.lt_one_iff.mp (g 1).isLt
  unfold ScatterDims.resultIdx?
  constructor
  · intro h
    split at h
    · rename_i hh
      have e := congrArg Fin.val (congrFun (Option.some.inj h) 0)
      have h0 := hh 0
      change (scat.start j idx 0 + (scat.window j 0 : Int)).toNat = (g 0).val at e
      rw [start_zero, window_zero] at e h0
      omega
    · exact nomatch h
  · intro h
    rw [dif_pos]
    · refine congrArg some (funext fun a => Fin.ext ?_)
      match a with
      | ⟨0, _⟩ =>
        show (scat.start j idx 0 + (scat.window j 0 : Int)).toNat = (g 0).val
        rw [start_zero, window_zero, h]; omega
      | ⟨1, _⟩ =>
        show (scat.start j idx 1 + (scat.window j 1 : Int)).toNat = (g 1).val
        rw [start_one, window_one, hg1]; rfl
    · intro a
      match a with
      | ⟨0, _⟩ =>
        show 0 ≤ scat.start j idx 0 + (scat.window j 0 : Int) ∧ scat.start j idx 0 + (scat.window j 0 : Int) < (1024 : ℕ)
        rw [start_zero, window_zero, h]; omega
      | ⟨1, _⟩ =>
        show 0 ≤ scat.start j idx 1 + (scat.window j 1 : Int) ∧ scat.start j idx 1 + (scat.window j 1 : Int) < (1 : ℕ)
        rw [start_one, window_one]; decide

/-- The nodes, counted off. -/
def nodes : Fin 100000 ≃ S100000x1.Idx where
  toFun n := ix2 n 0
  invFun j := j 0
  left_inv _ := rfl
  right_inv j := by
    rw [eq_ix2 j]
    exact congrArg (ix2 (j 0)) (Subsingleton.elim _ _)

variable (x : FVec Ideal S100000x1 .f32) (ids : IVec S100000 32) (w : FVec Ideal S1x1 .f32) (b : FVec Ideal S1 .f32)

/-- The index words, in a column. -/
theorem column (n : Fin 100000) : broadcastInDim S100000x1 ![0] bcast_S100000_S100000x1_0 ids (ix2 n 0) = ids (spot 99999 n.val) :=
  broadcastInDim_apply _ _ _ _ _ fun a => by
    obtain rfl := Fin.eq_zero a
    exact Nat.mod_eq_of_lt n.isLt

/-- The scatter's entry for a group: the sum of the values of the nodes whose word is its number. -/
theorem scatter_apply (g : S1024x1.Idx) (hids : ∀ n, (ids n).toNat < 1024) :
    Host.scatterAdd scatter_S1024x1_S100000x1_S100000x1_1_0_0_1 (broadcastInDim S1024x1 ![] bcast_S_S1024x1 (constant (F := Ideal) S_ .f32 0x00000000#32))
        (broadcastInDim S100000x1 ![0] bcast_S100000_S100000x1_0 ids) x g
      = (∑ n : Fin 100000, if (g 0).val = (ids (spot 99999 n.val)).toNat then x (ix2 n 0) else 0 : EReal) := by
  show ((Ideal.ofBits .f32 0x00000000#32 : EReal) + ∑ j ∈ Finset.univ.filter (fun j => scat.resultIdx? j _ = some g), x j) = _
  rw [Ideal.ofBits_zero_f32, zero_add, Finset.sum_filter, ← Equiv.sum_comp nodes]
  refine Finset.sum_congr rfl fun n _ => ?_
  refine if_congr ((lands _ _ g).trans ?_) rfl rfl
  show (broadcastInDim S100000x1 ![0] bcast_S100000_S100000x1_0 ids (ix2 n 0)).toInt = _ ↔ _
  rw [column, BitVec.toInt_eq_toNat_of_lt (by have := hids (spot 99999 n.val); omega)]
  omega

/-- The reference's result at a place. -/
theorem value_apply (g : S1024x1.Idx) (hids : ∀ n, (ids n).toNat < 1024) :
    addf (Host.dotGeneral dot_S1024x1_S1x1_S1024x1_1_0_0_1_n_n none (Host.scatterAdd scatter_S1024x1_S100000x1_S100000x1_1_0_0_1 (broadcastInDim S1024x1 ![] bcast_S_S1024x1 (constant (F := Ideal) S_ .f32 0x00000000#32)) (broadcastInDim S100000x1 ![0] bcast_S100000_S100000x1_0 ids) x) (transpose S1x1 [1, 0] w transposes_S1x1_S1x1_1_0)) (broadcastInDim S1024x1 ![0, 1] bcast_S1x1_S1024x1_0_1 (broadcastInDim S1x1 ![1] bcast_S1_S1x1_1 b)) g
      = ((∑ n : Fin 100000, if (g 0).val = (ids (spot 99999 n.val)).toNat then x (ix2 n 0) else 0) * w (ix2 0 0) + b (spot 0 0) : EReal) := by
  rw [← scatter_apply x ids g hids]
  generalize Host.scatterAdd scatter_S1024x1_S100000x1_S100000x1_1_0_0_1 _ _ x = A
  haveI : Subsingleton S1.Idx := ⟨fun i j => funext fun a => by obtain rfl := Fin.eq_zero a; exact Subsingleton.elim (α := Fin 1) _ _⟩
  haveI : Subsingleton S1x1.Idx := ⟨fun i j => funext fun a => by match a with | ⟨0, _⟩ => exact Subsingleton.elim (α := Fin 1) _ _ | ⟨1, _⟩ => exact Subsingleton.elim (α := Fin 1) _ _⟩
  show (Host.dotGeneral (DotDims.plain 1024 1 1) none A (transpose S1x1 [1, 0] w transposes_S1x1_S1x1_1_0) g + b _ : EReal) = _
  refine congrArg₂ (· + ·) ?_ (congrArg b (Subsingleton.elim _ _))
  rw [eq_ix2 g]
  refine (StackMember.dotGeneral_plain_apply (m := 1024) (n := 1) (k := 1) none A _ (g 0) (g 1)).trans ?_
  rw [Fin.sum_univ_one]
  refine congrArg₂ (· * ·) (congrArg A ?_) (congrArg w (Subsingleton.elim _ _))
  exact congrArg (ix2 (g 0)) (Subsingleton.elim (α := Fin 1) _ _)

end Cert.Proof.RefValue

end
-- ==== Proof.Equal.lean ====
/-
  The algebraic claim: in the extended reals the kernel and the reference leave the same numbers.
-/
module

public import proofs.«01_k».proof.Proof.Frames
public import proofs.«01_k».proof.Proof.Total
public import proofs.«01_k».proof.Proof.RefValue
public import Idealize.ShloMosaic.Lib.ValueLayoutCasts

@[expose] public section

noncomputable section

namespace Cert.Proof.Equal

open Idealize.ShloMosaic Idealize.SL.Sem
open Idealize.ShloMosaic.ValueIdx (ix1 ix2 eq_ix2)
open Cert.Proof.Vals (spot)

/-- A column read as a list of numbers. -/
theorem cast_column {n : ℕ} {α : Type} (x : (⟨2, ![n + 1, 1]⟩ : Shape).Idx → α) (h : (⟨2, ![n + 1, 1]⟩ : Shape).ShapeCasts ⟨1, ![n + 1]⟩) (k : Fin (n + 1)) :
    shapeCast ⟨1, ![n + 1]⟩ x h (spot n k.val) = x (ix2 k 0) :=
  shapeCast_apply x h _ _ (by
    rw [Shape.rowMajor_val_two, Shape.rowMajor_val_one, Vals.spot_val k.isLt]
    exact (Nat.add_zero _).trans (Nat.mul_one _))

/-- The kernel's result at a place is the reference's there. -/
theorem same (x : FVec Ideal Cert.ReferenceIdeal.S100000x1 .f32) (ids : IVec Cert.ReferenceIdeal.S100000 32) (w : FVec Ideal Cert.ReferenceIdeal.S1x1 .f32)
    (b : FVec Ideal Cert.ReferenceIdeal.S1 .f32) (h0 : Cert.KernelIdeal.S100000x1.ShapeCasts Cert.KernelIdeal.S100000)
    (h2 : Cert.KernelIdeal.S1x1.ShapeCasts Cert.KernelIdeal.S1) (h3 : Cert.KernelIdeal.S1024.ShapeCasts Cert.KernelIdeal.S1024x1) (g : Cert.ReferenceIdeal.S1024x1.Idx) :
    shapeCast Cert.KernelIdeal.S1024x1 (Vals.result (F := Ideal) (shapeCast Cert.KernelIdeal.S100000 x h0) ids (shapeCast Cert.KernelIdeal.S1 w h2) b) h3 g
      = ((∑ n : Fin 100000, if (g 0).val = (ids (spot 99999 n.val)).toNat then x (ix2 n 0) else 0) * w (ix2 0 0) + b (spot 0 0) : EReal) := by
  conv_lhs => rw [eq_ix2 g]
  refine (ValueIdx.shapeCast_a_a1_apply (a := 1024) _ h3 (g 0) (g 1)).trans ?_
  rw [Total.result_apply, Finset.sum_range]
  refine congrArg (· + (b (spot 0 0) : EReal)) (congrArg₂ (· * ·) (Finset.sum_congr rfl fun n _ => ?_) (cast_column (n := 0) w h2 0))
  unfold Total.share
  exact if_congr Iff.rfl (cast_column (n := 99999) x h0 n) rfl

/-- The algebraic claim. -/
theorem algebraic : Cert.algebraic_KernelIdeal_ReferenceIdeal := by
  intro m ρ m' ρ' hpre hargs
  have hids : ∀ d n, (Main.vi m d n).toNat < 1024 := fun d n => Range.ids_lt _ _ _ _ (hpre d) n
  refine ⟨fun c => Main.final m c, (θ_run Cert.KernelIdeal.defs _ _).mono
    (fun _ h c => ⟨(h.1 c).2.2.2.2, (h.1 c).1, (h.1 c).2.1, (h.1 c).2.2.1, (h.1 c).2.2.2.1⟩) (Main.run_main (F := Ideal) m ρ hids), ?_⟩
  refine (θ_run Cert.ReferenceIdeal.defs _ _).mono (fun _ h c => ⟨(h c).1.trans ?_, (h c).2⟩) (Cert.ReferenceIdeal.Value.run (F := Ideal) m' ρ')
  rw [(hargs c).1, (hargs c).2.1, (hargs c).2.2.1, (hargs c).2.2.2]
  exact funext fun g => (RefValue.value_apply _ _ _ _ g (hids c)).trans (same _ _ _ _ _ _ _ g).symm

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_ids_in_range.Gen.facts,
    Frames.frame_kernel, Frames.frame_ideal, Frames.frame_reference, Frames.frame_reference_pre, trivial, Equal.algebraic⟩

end Cert.Proof

end
